-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Stage (m : (ℓ : Loc Cert.Stage.nD Cert.Stage.τ Cert.Stage.sig) → Buf (Elt Bits) ℓ) : Prop :=
  True

def Pre_StageIdeal (m : (ℓ : Loc Cert.StageIdeal.nD Cert.StageIdeal.τ Cert.StageIdeal.sig) → Buf (Elt Ideal) ℓ) : Prop :=
  True

def Pre_StageIdeal_finite_sum [hPre_finite_sum : Cert.Pre_finite_sum.Facts] (m : (ℓ : Loc Cert.StageIdeal.nD Cert.StageIdeal.τ Cert.StageIdeal.sig) → Buf (Elt Ideal) ℓ) : Prop :=
  ∀ c : Dev Cert.StageIdeal.nD,
    (Cert.Pre_finite_sum.fn (F := Ideal) (m ((c.tc : Thread Cert.StageIdeal.nD Cert.StageIdeal.τ).loc Cert.StageIdeal.main_arg0)) (m ((c.tc : Thread Cert.StageIdeal.nD Cert.StageIdeal.τ).loc Cert.StageIdeal.main_arg1)) (m ((c.tc : Thread Cert.StageIdeal.nD Cert.StageIdeal.τ).loc Cert.StageIdeal.main_arg2))) = (fun _ => 1#1)

def Pre_StageReferenceIdeal (m : (ℓ : Loc Cert.StageReferenceIdeal.nD Cert.StageReferenceIdeal.τ Cert.StageReferenceIdeal.sig) → Buf (Elt Ideal) ℓ) : Prop :=
  True

def Pre_StageReferenceIdeal_finite_sum [hPre_finite_sum : Cert.Pre_finite_sum.Facts] (m : (ℓ : Loc Cert.StageReferenceIdeal.nD Cert.StageReferenceIdeal.τ Cert.StageReferenceIdeal.sig) → Buf (Elt Ideal) ℓ) : Prop :=
  ∀ c : Dev Cert.StageReferenceIdeal.nD,
    (Cert.Pre_finite_sum.fn (F := Ideal) (m ((c.tc : Thread Cert.StageReferenceIdeal.nD Cert.StageReferenceIdeal.τ).loc Cert.StageReferenceIdeal.main_arg0)) (m ((c.tc : Thread Cert.StageReferenceIdeal.nD Cert.StageReferenceIdeal.τ).loc Cert.StageReferenceIdeal.main_arg1)) (m ((c.tc : Thread Cert.StageReferenceIdeal.nD Cert.StageReferenceIdeal.τ).loc Cert.StageReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Stage [hStage : Cert.Stage.Facts] : Prop :=
  ∀ (m : (ℓ : Loc Cert.Stage.nD Cert.Stage.τ Cert.Stage.sig) → Buf (Elt Bits) ℓ) (g : Dev Cert.Stage.nD → PrngReg), Pre_Stage m →
    θ_run (Cert.Stage.defs (F := Bits)) (onTc (τ := Cert.Stage.τ) (Cert.Stage.main (F := Bits))) ⟨m, fun _ => 0, g⟩ (fun r => (∀ c : Dev Cert.Stage.nD,
      r.2.mem ((c.tc : Thread Cert.Stage.nD Cert.Stage.τ).loc Cert.Stage.main_arg0) = m ((c.tc : Thread Cert.Stage.nD Cert.Stage.τ).loc Cert.Stage.main_arg0)
      ∧ r.2.mem ((c.tc : Thread Cert.Stage.nD Cert.Stage.τ).loc Cert.Stage.main_arg1) = m ((c.tc : Thread Cert.Stage.nD Cert.Stage.τ).loc Cert.Stage.main_arg1)
      ∧ r.2.mem ((c.tc : Thread Cert.Stage.nD Cert.Stage.τ).loc Cert.Stage.main_arg2) = m ((c.tc : Thread Cert.Stage.nD Cert.Stage.τ).loc Cert.Stage.main_arg2))
      ∧ r.2.sem = fun _ => 0)

def quiescent_StageIdeal [hStageIdeal : Cert.StageIdeal.Facts] : Prop :=
  ∀ (m : (ℓ : Loc Cert.StageIdeal.nD Cert.StageIdeal.τ Cert.StageIdeal.sig) → Buf (Elt Ideal) ℓ) (g : Dev Cert.StageIdeal.nD → PrngReg), Pre_StageIdeal m →
    θ_run (Cert.StageIdeal.defs (F := Ideal)) (onTc (τ := Cert.StageIdeal.τ) (Cert.StageIdeal.main (F := Ideal))) ⟨m, fun _ => 0, g⟩ (fun r => (∀ c : Dev Cert.StageIdeal.nD,
      r.2.mem ((c.tc : Thread Cert.StageIdeal.nD Cert.StageIdeal.τ).loc Cert.StageIdeal.main_arg0) = m ((c.tc : Thread Cert.StageIdeal.nD Cert.StageIdeal.τ).loc Cert.StageIdeal.main_arg0)
      ∧ r.2.mem ((c.tc : Thread Cert.StageIdeal.nD Cert.StageIdeal.τ).loc Cert.StageIdeal.main_arg1) = m ((c.tc : Thread Cert.StageIdeal.nD Cert.StageIdeal.τ).loc Cert.StageIdeal.main_arg1)
      ∧ r.2.mem ((c.tc : Thread Cert.StageIdeal.nD Cert.StageIdeal.τ).loc Cert.StageIdeal.main_arg2) = m ((c.tc : Thread Cert.StageIdeal.nD Cert.StageIdeal.τ).loc Cert.StageIdeal.main_arg2))
      ∧ r.2.sem = fun _ => 0)

def quiescent_StageIdeal_pre_finite_sum [hStageIdeal : Cert.StageIdeal.Facts] [hPre_finite_sum : Cert.Pre_finite_sum.Facts] : Prop :=
  ∀ (m : (ℓ : Loc Cert.StageIdeal.nD Cert.StageIdeal.τ Cert.StageIdeal.sig) → Buf (Elt Ideal) ℓ) (g : Dev Cert.StageIdeal.nD → PrngReg), Pre_StageIdeal_finite_sum m →
    θ_run (Cert.StageIdeal.defs (F := Ideal)) (onTc (τ := Cert.StageIdeal.τ) (Cert.StageIdeal.main (F := Ideal))) ⟨m, fun _ => 0, g⟩ (fun r => (∀ c : Dev Cert.StageIdeal.nD,
      r.2.mem ((c.tc : Thread Cert.StageIdeal.nD Cert.StageIdeal.τ).loc Cert.StageIdeal.main_arg0) = m ((c.tc : Thread Cert.StageIdeal.nD Cert.StageIdeal.τ).loc Cert.StageIdeal.main_arg0)
      ∧ r.2.mem ((c.tc : Thread Cert.StageIdeal.nD Cert.StageIdeal.τ).loc Cert.StageIdeal.main_arg1) = m ((c.tc : Thread Cert.StageIdeal.nD Cert.StageIdeal.τ).loc Cert.StageIdeal.main_arg1)
      ∧ r.2.mem ((c.tc : Thread Cert.StageIdeal.nD Cert.StageIdeal.τ).loc Cert.StageIdeal.main_arg2) = m ((c.tc : Thread Cert.StageIdeal.nD Cert.StageIdeal.τ).loc Cert.StageIdeal.main_arg2))
      ∧ r.2.sem = fun _ => 0)

def quiescent_StageReferenceIdeal [hStageReferenceIdeal : Cert.StageReferenceIdeal.Facts] : Prop :=
  ∀ (m : (ℓ : Loc Cert.StageReferenceIdeal.nD Cert.StageReferenceIdeal.τ Cert.StageReferenceIdeal.sig) → Buf (Elt Ideal) ℓ) (g : Dev Cert.StageReferenceIdeal.nD → PrngReg), Pre_StageReferenceIdeal m →
    θ_run (Cert.StageReferenceIdeal.defs (F := Ideal)) (onTc (τ := Cert.StageReferenceIdeal.τ) (Cert.StageReferenceIdeal.main (F := Ideal))) ⟨m, fun _ => 0, g⟩ (fun r => (∀ c : Dev Cert.StageReferenceIdeal.nD,
      r.2.mem ((c.tc : Thread Cert.StageReferenceIdeal.nD Cert.StageReferenceIdeal.τ).loc Cert.StageReferenceIdeal.main_arg0) = m ((c.tc : Thread Cert.StageReferenceIdeal.nD Cert.StageReferenceIdeal.τ).loc Cert.StageReferenceIdeal.main_arg0)
      ∧ r.2.mem ((c.tc : Thread Cert.StageReferenceIdeal.nD Cert.StageReferenceIdeal.τ).loc Cert.StageReferenceIdeal.main_arg1) = m ((c.tc : Thread Cert.StageReferenceIdeal.nD Cert.StageReferenceIdeal.τ).loc Cert.StageReferenceIdeal.main_arg1)
      ∧ r.2.mem ((c.tc : Thread Cert.StageReferenceIdeal.nD Cert.StageReferenceIdeal.τ).loc Cert.StageReferenceIdeal.main_arg2) = m ((c.tc : Thread Cert.StageReferenceIdeal.nD Cert.StageReferenceIdeal.τ).loc Cert.StageReferenceIdeal.main_arg2))
      ∧ r.2.sem = fun _ => 0)

def quiescent_StageReferenceIdeal_pre_finite_sum [hStageReferenceIdeal : Cert.StageReferenceIdeal.Facts] [hPre_finite_sum : Cert.Pre_finite_sum.Facts] : Prop :=
  ∀ (m : (ℓ : Loc Cert.StageReferenceIdeal.nD Cert.StageReferenceIdeal.τ Cert.StageReferenceIdeal.sig) → Buf (Elt Ideal) ℓ) (g : Dev Cert.StageReferenceIdeal.nD → PrngReg), Pre_StageReferenceIdeal_finite_sum m →
    θ_run (Cert.StageReferenceIdeal.defs (F := Ideal)) (onTc (τ := Cert.StageReferenceIdeal.τ) (Cert.StageReferenceIdeal.main (F := Ideal))) ⟨m, fun _ => 0, g⟩ (fun r => (∀ c : Dev Cert.StageReferenceIdeal.nD,
      r.2.mem ((c.tc : Thread Cert.StageReferenceIdeal.nD Cert.StageReferenceIdeal.τ).loc Cert.StageReferenceIdeal.main_arg0) = m ((c.tc : Thread Cert.StageReferenceIdeal.nD Cert.StageReferenceIdeal.τ).loc Cert.StageReferenceIdeal.main_arg0)
      ∧ r.2.mem ((c.tc : Thread Cert.StageReferenceIdeal.nD Cert.StageReferenceIdeal.τ).loc Cert.StageReferenceIdeal.main_arg1) = m ((c.tc : Thread Cert.StageReferenceIdeal.nD Cert.StageReferenceIdeal.τ).loc Cert.StageReferenceIdeal.main_arg1)
      ∧ r.2.mem ((c.tc : Thread Cert.StageReferenceIdeal.nD Cert.StageReferenceIdeal.τ).loc Cert.StageReferenceIdeal.main_arg2) = m ((c.tc : Thread Cert.StageReferenceIdeal.nD Cert.StageReferenceIdeal.τ).loc Cert.StageReferenceIdeal.main_arg2))
      ∧ r.2.sem = fun _ => 0)

def preserves_Kernel_KernelIdeal : Prop :=
  True

def algebraic_KernelIdeal_ReferenceIdeal_on_three_pre_finite [hKernelIdeal : Cert.KernelIdeal.Facts] [hReferenceIdeal : Cert.ReferenceIdeal.Facts] [hPre_finite : Cert.Pre_finite.Facts] [hOn_three : Cert.On_three.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v25_3)) (v3 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![6, 4096, 768]⟩ : Shape).Idx, (Cert.On_three.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v36) i = v0 c i)
          ∧ (∀ i : (⟨2, ![6144, 2560]⟩ : Shape).Idx, (Cert.On_three.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v29) i = v1 c i)
          ∧ (∀ i : (⟨2, ![2560, 96]⟩ : Shape).Idx, (Cert.On_three.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v25_3) i = v2 c i)
          ∧ (∀ i : (⟨2, ![64, 96]⟩ : Shape).Idx, (Cert.On_three.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.KernelIdeal.nD Cert.KernelIdeal.τ).loc Cert.KernelIdeal.main_v38) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![6, 4096, 768]⟩ : Shape).Idx, (Cert.On_three.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v61) i = v0 c i)
          ∧ (∀ i : (⟨2, ![6144, 2560]⟩ : Shape).Idx, (Cert.On_three.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v51) i = v1 c i)
          ∧ (∀ i : (⟨2, ![2560, 96]⟩ : Shape).Idx, (Cert.On_three.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v30) i = v2 c i)
          ∧ (∀ i : (⟨2, ![64, 96]⟩ : Shape).Idx, (Cert.On_three.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.ReferenceIdeal.nD Cert.ReferenceIdeal.τ).loc Cert.ReferenceIdeal.main_v54) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Stage_StageIdeal : Prop :=
  True

def algebraic_StageIdeal_StageReferenceIdeal_pre_finite_sum [hStageIdeal : Cert.StageIdeal.Facts] [hStageReferenceIdeal : Cert.StageReferenceIdeal.Facts] [hPre_finite_sum : Cert.Pre_finite_sum.Facts] : Prop :=
  ∀ (m : (ℓ : Loc Cert.StageIdeal.nD Cert.StageIdeal.τ Cert.StageIdeal.sig) → Buf (Elt Ideal) ℓ) (g : Dev Cert.StageIdeal.nD → PrngReg)
    (m' : (ℓ : Loc Cert.StageReferenceIdeal.nD Cert.StageReferenceIdeal.τ Cert.StageReferenceIdeal.sig) → Buf (Elt Ideal) ℓ) (g' : Dev Cert.StageReferenceIdeal.nD → PrngReg), Pre_StageIdeal_finite_sum m →
    (∀ c : Dev Cert.StageIdeal.nD,
      m' ((c.tc : Thread Cert.StageReferenceIdeal.nD Cert.StageReferenceIdeal.τ).loc Cert.StageReferenceIdeal.main_arg0) = m ((c.tc : Thread Cert.StageIdeal.nD Cert.StageIdeal.τ).loc Cert.StageIdeal.main_arg0)
      ∧ m' ((c.tc : Thread Cert.StageReferenceIdeal.nD Cert.StageReferenceIdeal.τ).loc Cert.StageReferenceIdeal.main_arg1) = m ((c.tc : Thread Cert.StageIdeal.nD Cert.StageIdeal.τ).loc Cert.StageIdeal.main_arg1)
      ∧ m' ((c.tc : Thread Cert.StageReferenceIdeal.nD Cert.StageReferenceIdeal.τ).loc Cert.StageReferenceIdeal.main_arg2) = m ((c.tc : Thread Cert.StageIdeal.nD Cert.StageIdeal.τ).loc Cert.StageIdeal.main_arg2)) →
    ∃ (v0 : (c : Dev Cert.StageIdeal.nD) → Buf (Elt Ideal) ((c.tc : Thread Cert.StageIdeal.nD Cert.StageIdeal.τ).loc Cert.StageIdeal.main_v5)),
      θ_run (Cert.StageIdeal.defs (F := Ideal)) (onTc (τ := Cert.StageIdeal.τ) (Cert.StageIdeal.main (F := Ideal))) ⟨m, fun _ => 0, g⟩ (fun r => ∀ c : Dev Cert.StageIdeal.nD,
          r.2.mem ((c.tc : Thread Cert.StageIdeal.nD Cert.StageIdeal.τ).loc Cert.StageIdeal.main_v5) = v0 c
          ∧ r.2.mem ((c.tc : Thread Cert.StageIdeal.nD Cert.StageIdeal.τ).loc Cert.StageIdeal.main_arg0) = m ((c.tc : Thread Cert.StageIdeal.nD Cert.StageIdeal.τ).loc Cert.StageIdeal.main_arg0)
          ∧ r.2.mem ((c.tc : Thread Cert.StageIdeal.nD Cert.StageIdeal.τ).loc Cert.StageIdeal.main_arg1) = m ((c.tc : Thread Cert.StageIdeal.nD Cert.StageIdeal.τ).loc Cert.StageIdeal.main_arg1)
          ∧ r.2.mem ((c.tc : Thread Cert.StageIdeal.nD Cert.StageIdeal.τ).loc Cert.StageIdeal.main_arg2) = m ((c.tc : Thread Cert.StageIdeal.nD Cert.StageIdeal.τ).loc Cert.StageIdeal.main_arg2))
      ∧ θ_run (Cert.StageReferenceIdeal.defs (F := Ideal)) (onTc (τ := Cert.StageReferenceIdeal.τ) (Cert.StageReferenceIdeal.main (F := Ideal))) ⟨m', fun _ => 0, g'⟩ (fun r => ∀ c : Dev Cert.StageReferenceIdeal.nD,
          r.2.mem ((c.tc : Thread Cert.StageReferenceIdeal.nD Cert.StageReferenceIdeal.τ).loc Cert.StageReferenceIdeal.main_v3) = v0 c
          ∧ r.2.mem ((c.tc : Thread Cert.StageReferenceIdeal.nD Cert.StageReferenceIdeal.τ).loc Cert.StageReferenceIdeal.main_arg0) = m' ((c.tc : Thread Cert.StageReferenceIdeal.nD Cert.StageReferenceIdeal.τ).loc Cert.StageReferenceIdeal.main_arg0)
          ∧ r.2.mem ((c.tc : Thread Cert.StageReferenceIdeal.nD Cert.StageReferenceIdeal.τ).loc Cert.StageReferenceIdeal.main_arg1) = m' ((c.tc : Thread Cert.StageReferenceIdeal.nD Cert.StageReferenceIdeal.τ).loc Cert.StageReferenceIdeal.main_arg1)
          ∧ r.2.mem ((c.tc : Thread Cert.StageReferenceIdeal.nD Cert.StageReferenceIdeal.τ).loc Cert.StageReferenceIdeal.main_arg2) = m' ((c.tc : Thread Cert.StageReferenceIdeal.nD Cert.StageReferenceIdeal.τ).loc Cert.StageReferenceIdeal.main_arg2))

def Claim : Prop :=
  ∃ (hKernel : Cert.Kernel.Facts) (hKernelIdeal : Cert.KernelIdeal.Facts) (hReferenceIdeal : Cert.ReferenceIdeal.Facts) (hStage : Cert.Stage.Facts) (hStageIdeal : Cert.StageIdeal.Facts) (hStageReferenceIdeal : Cert.StageReferenceIdeal.Facts) (hPre_finite : Cert.Pre_finite.Facts) (hPre_finite_sum : Cert.Pre_finite_sum.Facts) (hOn_three : Cert.On_three.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Stage (hStage := hStage)
    ∧ quiescent_StageIdeal (hStageIdeal := hStageIdeal)
    ∧ quiescent_StageIdeal_pre_finite_sum (hStageIdeal := hStageIdeal) (hPre_finite_sum := hPre_finite_sum)
    ∧ quiescent_StageReferenceIdeal (hStageReferenceIdeal := hStageReferenceIdeal)
    ∧ quiescent_StageReferenceIdeal_pre_finite_sum (hStageReferenceIdeal := hStageReferenceIdeal) (hPre_finite_sum := hPre_finite_sum)
    ∧ preserves_Kernel_KernelIdeal
    ∧ algebraic_KernelIdeal_ReferenceIdeal_on_three_pre_finite (hKernelIdeal := hKernelIdeal) (hReferenceIdeal := hReferenceIdeal) (hPre_finite := hPre_finite) (hOn_three := hOn_three)
    ∧ preserves_Stage_StageIdeal
    ∧ algebraic_StageIdeal_StageReferenceIdeal_pre_finite_sum (hStageIdeal := hStageIdeal) (hStageReferenceIdeal := hStageReferenceIdeal) (hPre_finite_sum := hPre_finite_sum)
-- ==== On_three.lean ====
abbrev S6x4096x768 : Shape := ⟨3, ![6, 4096, 768]⟩
abbrev S6x4096x8 : Shape := ⟨3, ![6, 4096, 8]⟩
abbrev S64x96 : Shape := ⟨2, ![64, 96]⟩
abbrev S6144x2560 : Shape := ⟨2, ![6144, 2560]⟩
abbrev S2560x96 : Shape := ⟨2, ![2560, 96]⟩
abbrev S6x127x8x96 : Shape := ⟨4, ![6, 127, 8, 96]⟩
abbrev S6x127x8 : Shape := ⟨3, ![6, 127, 8]⟩
abbrev S_ : Shape := ⟨0, ![]⟩

class Facts : Prop where
  bcast_S_S6x4096x768 : S_.BroadcastsInDim S6x4096x768 (![] : Fin 0 → Fin S6x4096x768.rank)
  bcast_S_S6144x2560 : S_.BroadcastsInDim S6144x2560 (![] : Fin 0 → Fin S6144x2560.rank)
  bcast_S_S2560x96 : S_.BroadcastsInDim S2560x96 (![] : Fin 0 → Fin S2560x96.rank)
  bcast_S_S64x96 : S_.BroadcastsInDim S64x96 (![] : Fin 0 → Fin S64x96.rank)

variable [Facts]

def fn {F : FTy → Type} [FloatOps F] (main_arg0 : FVec F S6x4096x768 .fp8e4m3) (main_arg1 : FVec F S6x4096x8 .f32) (main_arg2 : FVec F S64x96 .f32) (main_arg3 : FVec F S6144x2560 .bf16) (main_arg4 : FVec F S2560x96 .bf16) (main_arg5 : FVec F S6x127x8x96 .fp8e5m2) (main_arg6 : FVec F S6x127x8 .f32) : IVec S6x4096x768 1 × IVec S6144x2560 1 × IVec S2560x96 1 × IVec S64x96 1 :=
  let main_c : IVec S_ 1 := constantI S_ 1 1#1
  let main_v0 : IVec S6x4096x768 1 := broadcastInDim S6x4096x768 ![] bcast_S_S6x4096x768 main_c
  let main_c_0 : IVec S_ 1 := constantI S_ 1 1#1
  let main_v1 : IVec S6144x2560 1 := broadcastInDim S6144x2560 ![] bcast_S_S6144x2560 main_c_0
  let main_c_1 : IVec S_ 1 := constantI S_ 1 1#1
  let main_v2 : IVec S2560x96 1 := broadcastInDim S2560x96 ![] bcast_S_S2560x96 main_c_1
  let main_c_2 : IVec S_ 1 := constantI S_ 1 0#1
  let main_v3 : IVec S64x96 1 := broadcastInDim S64x96 ![] bcast_S_S64x96 main_c_2
  (main_v0, main_v1, main_v2, main_v3)
-- ==== Pre_finite.lean ====
abbrev S6x4096x768 : Shape := ⟨3, ![6, 4096, 768]⟩
abbrev S6x4096x8 : Shape := ⟨3, ![6, 4096, 8]⟩
abbrev S64x96 : Shape := ⟨2, ![64, 96]⟩
abbrev S6144x2560 : Shape := ⟨2, ![6144, 2560]⟩
abbrev S2560x96 : Shape := ⟨2, ![2560, 96]⟩
abbrev S6x127x8x96 : Shape := ⟨4, ![6, 127, 8, 96]⟩
abbrev S6x127x8 : Shape := ⟨3, ![6, 127, 8]⟩
abbrev S_ : Shape := ⟨0, ![]⟩

class Facts : Prop where
  bcast_S_S64x96 : S_.BroadcastsInDim S64x96 (![] : Fin 0 → Fin S64x96.rank)

variable [Facts]

def fn {F : FTy → Type} [FloatOps F] (main_arg0 : FVec F S6x4096x768 .fp8e4m3) (main_arg1 : FVec F S6x4096x8 .f32) (main_arg2 : FVec F S64x96 .f32) (main_arg3 : FVec F S6144x2560 .bf16) (main_arg4 : FVec F S2560x96 .bf16) (main_arg5 : FVec F S6x127x8x96 .fp8e5m2) (main_arg6 : FVec F S6x127x8 .f32) : IVec S64x96 1 :=
  let main_v0 : FVec F S64x96 .f32 := Host.absf main_arg2
  let main_cst : FVec F S_ .f32 := constant S_ .f32 0x7F800000#32
  let main_v1 : FVec F S64x96 .f32 := broadcastInDim S64x96 ![] bcast_S_S64x96 main_cst
  let main_v2 : IVec S64x96 1 := cmpf .olt main_v0 main_v1
  main_v2
-- ==== Pre_finite_sum.lean ====
abbrev S6144x2560 : Shape := ⟨2, ![6144, 2560]⟩
abbrev S1x2560 : Shape := ⟨2, ![1, 2560]⟩
abbrev S_ : Shape := ⟨0, ![]⟩

class Facts : Prop where
  bcast_S_S1x2560 : S_.BroadcastsInDim S1x2560 (![] : Fin 0 → Fin S1x2560.rank)

variable [Facts]

def fn {F : FTy → Type} [FloatOps F] (main_arg0 : FVec F S6144x2560 .bf16) (main_arg1 : FVec F S1x2560 .f32) (main_arg2 : FVec F S6144x2560 .bf16) : IVec S1x2560 1 :=
  let main_v0 : FVec F S1x2560 .f32 := Host.absf main_arg1
  let main_cst : FVec F S_ .f32 := constant S_ .f32 0x7F800000#32
  let main_v1 : FVec F S1x2560 .f32 := broadcastInDim S1x2560 ![] bcast_S_S1x2560 main_cst
  let main_v2 : IVec S1x2560 1 := cmpf .olt main_v0 main_v1
  main_v2
-- ==== Kernel.lean ====
abbrev S6x4096x768 : Shape := ⟨3, ![6, 4096, 768]⟩
abbrev S6x4096x8 : Shape := ⟨3, ![6, 4096, 8]⟩
abbrev S64x96 : Shape := ⟨2, ![64, 96]⟩
abbrev S6144x2560 : Shape := ⟨2, ![6144, 2560]⟩
abbrev S2560x96 : Shape := ⟨2, ![2560, 96]⟩
abbrev S6x127x8x96 : Shape := ⟨4, ![6, 127, 8, 96]⟩
abbrev S6x127x8 : Shape := ⟨3, ![6, 127, 8]⟩
abbrev S6x128x32x8x96 : Shape := ⟨5, ![6, 128, 32, 8, 96]⟩
abbrev S128x6x8x32x96 : Shape := ⟨5, ![128, 6, 8, 32, 96]⟩
abbrev S6144x3072 : Shape := ⟨2, ![6144, 3072]⟩
abbrev S6x4096x8x1 : Shape := ⟨4, ![6, 4096, 8, 1]⟩
abbrev S6x4096x8x96 : Shape := ⟨4, ![6, 4096, 8, 96]⟩
abbrev S6096x3072 : Shape := ⟨2, ![6096, 3072]⟩
abbrev S_ : Shape := ⟨0, ![]⟩
abbrev S48x3072 : Shape := ⟨2, ![48, 3072]⟩
abbrev S6x128x8x96 : Shape := ⟨4, ![6, 128, 8, 96]⟩
abbrev S128x6x8x96 : Shape := ⟨4, ![128, 6, 8, 96]⟩
abbrev S6144x96 : Shape := ⟨2, ![6144, 96]⟩
abbrev S6x128x8 : Shape := ⟨3, ![6, 128, 8]⟩
abbrev S128x6x8 : Shape := ⟨3, ![128, 6, 8]⟩
abbrev S6144x1 : Shape := ⟨2, ![6144, 1]⟩
abbrev S1x6144 : Shape := ⟨2, ![1, 6144]⟩
abbrev S1x2560 : Shape := ⟨2, ![1, 2560]⟩
abbrev S512x3072 : Shape := ⟨2, ![512, 3072]⟩
abbrev S6144x512 : Shape := ⟨2, ![6144, 512]⟩
abbrev S512x96 : Shape := ⟨2, ![512, 96]⟩
abbrev S512x1 : Shape := ⟨2, ![512, 1]⟩
abbrev S512x512 : Shape := ⟨2, ![512, 512]⟩
abbrev S1x512 : Shape := ⟨2, ![1, 512]⟩
abbrev S13x6144 : Shape := ⟨2, ![13, 6144]⟩
abbrev S16x6144 : Shape := ⟨2, ![16, 6144]⟩
abbrev S16x3072 : Shape := ⟨2, ![16, 3072]⟩
abbrev S3072x512 : Shape := ⟨2, ![3072, 512]⟩
abbrev S16x512 : Shape := ⟨2, ![16, 512]⟩
abbrev S512 : Shape := ⟨1, ![512]⟩
abbrev S3072x1 : Shape := ⟨2, ![3072, 1]⟩
abbrev S3072x2560 : Shape := ⟨2, ![3072, 2560]⟩
abbrev S48x2560 : Shape := ⟨2, ![48, 2560]⟩
abbrev S6096x2560 : Shape := ⟨2, ![6096, 2560]⟩
abbrev S1x3072 : Shape := ⟨2, ![1, 3072]⟩
abbrev S512x2560 : Shape := ⟨2, ![512, 2560]⟩
abbrev S13x2560 : Shape := ⟨2, ![13, 2560]⟩
abbrev S16x2560 : Shape := ⟨2, ![16, 2560]⟩

abbrev nBuf : Space → Nat
  | .hbm => 58
  | .vmem => 60
  | .smem => 0
  | _ => 0

abbrev bufTy : (tb : Table) → Fin (tcTables nBuf tb) → BufTy
  | .hbm, ⟨0, _⟩ => ⟨S6x4096x768, .fp8e4m3⟩
  | .hbm, ⟨1, _⟩ => ⟨S6x4096x8, .f32⟩
  | .hbm, ⟨2, _⟩ => ⟨S64x96, .f32⟩
  | .hbm, ⟨3, _⟩ => ⟨S6144x2560, .bf16⟩
  | .hbm, ⟨4, _⟩ => ⟨S2560x96, .bf16⟩
  | .hbm, ⟨5, _⟩ => ⟨S6x127x8x96, .fp8e5m2⟩
  | .hbm, ⟨6, _⟩ => ⟨S6x127x8, .f32⟩
  | .hbm, ⟨7, _⟩ => ⟨S6x128x32x8x96, .fp8e4m3⟩
  | .hbm, ⟨8, _⟩ => ⟨S128x6x8x32x96, .fp8e4m3⟩
  | .hbm, ⟨9, _⟩ => ⟨S6144x3072, .fp8e4m3⟩
  | .hbm, ⟨10, _⟩ => ⟨S6x4096x8, .bf16⟩
  | .hbm, ⟨11, _⟩ => ⟨S6x4096x8x1, .bf16⟩
  | .hbm, ⟨12, _⟩ => ⟨S6x4096x8x96, .bf16⟩
  | .hbm, ⟨13, _⟩ => ⟨S6x128x32x8x96, .bf16⟩
  | .hbm, ⟨14, _⟩ => ⟨S128x6x8x32x96, .bf16⟩
  | .hbm, ⟨15, _⟩ => ⟨S6144x3072, .bf16⟩
  | .hbm, ⟨16, _⟩ => ⟨S6096x3072, .fp8e4m3⟩
  | .hbm, ⟨17, _⟩ => ⟨S_, .i8⟩
  | .hbm, ⟨18, _⟩ => ⟨S48x3072, .i8⟩
  | .hbm, ⟨19, _⟩ => ⟨S48x3072, .fp8e4m3⟩
  | .hbm, ⟨20, _⟩ => ⟨S6144x3072, .fp8e4m3⟩
  | .hbm, ⟨21, _⟩ => ⟨S6096x3072, .bf16⟩
  | .hbm, ⟨22, _⟩ => ⟨S_, .bf16⟩
  | .hbm, ⟨23, _⟩ => ⟨S48x3072, .bf16⟩
  | .hbm, ⟨24, _⟩ => ⟨S6144x3072, .bf16⟩
  | .hbm, ⟨25, _⟩ => ⟨S_, .i8⟩
  | .hbm, ⟨26, _⟩ => ⟨S_, .fp8e5m2⟩
  | .hbm, ⟨27, _⟩ => ⟨S6x128x8x96, .fp8e5m2⟩
  | .hbm, ⟨28, _⟩ => ⟨S128x6x8x96, .fp8e5m2⟩
  | .hbm, ⟨29, _⟩ => ⟨S6144x96, .fp8e5m2⟩
  | .hbm, ⟨30, _⟩ => ⟨S_, .i32⟩
  | .hbm, ⟨31, _⟩ => ⟨S_, .f32⟩
  | .hbm, ⟨32, _⟩ => ⟨S6x128x8, .f32⟩
  | .hbm, ⟨33, _⟩ => ⟨S128x6x8, .f32⟩
  | .hbm, ⟨34, _⟩ => ⟨S6144x1, .f32⟩
  | .hbm, ⟨35, _⟩ => ⟨S1x6144, .f32⟩
  | .hbm, ⟨36, _⟩ => ⟨S6144x1, .f32⟩
  | .hbm, ⟨37, _⟩ => ⟨S6144x2560, .bf16⟩
  | .hbm, ⟨38, _⟩ => ⟨S1x2560, .f32⟩
  | .hbm, ⟨39, _⟩ => ⟨S1x2560, .f32⟩
  | .hbm, ⟨40, _⟩ => ⟨S2560x96, .f32⟩
  | .hbm, ⟨41, _⟩ => ⟨S3072x1, .f32⟩
  | .hbm, ⟨42, _⟩ => ⟨S3072x1, .f32⟩
  | .hbm, ⟨43, _⟩ => ⟨S3072x2560, .f32⟩
  | .hbm, ⟨44, _⟩ => ⟨S3072x2560, .f32⟩
  | .hbm, ⟨45, _⟩ => ⟨S6144x2560, .f32⟩
  | .hbm, ⟨46, _⟩ => ⟨S_, .bf16⟩
  | .hbm, ⟨47, _⟩ => ⟨S48x2560, .bf16⟩
  | .hbm, ⟨48, _⟩ => ⟨S6096x2560, .bf16⟩
  | .hbm, ⟨49, _⟩ => ⟨S6144x2560, .bf16⟩
  | .hbm, ⟨50, _⟩ => ⟨S6144x3072, .bf16⟩
  | .hbm, ⟨51, _⟩ => ⟨S1x3072, .f32⟩
  | .hbm, ⟨52, _⟩ => ⟨S1x3072, .f32⟩
  | .hbm, ⟨53, _⟩ => ⟨S128x6x8x32x96, .bf16⟩
  | .hbm, ⟨54, _⟩ => ⟨S6x128x32x8x96, .bf16⟩
  | .hbm, ⟨55, _⟩ => ⟨S6x4096x768, .bf16⟩
  | .hbm, ⟨56, _⟩ => ⟨S1x6144, .f32⟩
  | .hbm, ⟨57, _⟩ => ⟨S64x96, .f32⟩
  | .local _ .vmem, ⟨0, _⟩ => ⟨S512x3072, .fp8e4m3⟩
  | .local _ .vmem, ⟨1, _⟩ => ⟨S512x3072, .fp8e4m3⟩
  | .local _ .vmem, ⟨2, _⟩ => ⟨S512x3072, .bf16⟩
  | .local _ .vmem, ⟨3, _⟩ => ⟨S512x3072, .bf16⟩
  | .local _ .vmem, ⟨4, _⟩ => ⟨S512x3072, .fp8e4m3⟩
  | .local _ .vmem, ⟨5, _⟩ => ⟨S512x3072, .fp8e4m3⟩
  | .local _ .vmem, ⟨6, _⟩ => ⟨S512x3072, .bf16⟩
  | .local _ .vmem, ⟨7, _⟩ => ⟨S512x3072, .bf16⟩
  | .local _ .vmem, ⟨8, _⟩ => ⟨S6144x512, .bf16⟩
  | .local _ .vmem, ⟨9, _⟩ => ⟨S6144x512, .bf16⟩
  | .local _ .vmem, ⟨10, _⟩ => ⟨S512x96, .bf16⟩
  | .local _ .vmem, ⟨11, _⟩ => ⟨S512x96, .bf16⟩
  | .local _ .vmem, ⟨12, _⟩ => ⟨S1x6144, .f32⟩
  | .local _ .vmem, ⟨13, _⟩ => ⟨S512x96, .fp8e5m2⟩
  | .local _ .vmem, ⟨14, _⟩ => ⟨S512x96, .fp8e5m2⟩
  | .local _ .vmem, ⟨15, _⟩ => ⟨S512x1, .f32⟩
  | .local _ .vmem, ⟨16, _⟩ => ⟨S512x1, .f32⟩
  | .local _ .vmem, ⟨17, _⟩ => ⟨S512x512, .bf16⟩
  | .local _ .vmem, ⟨18, _⟩ => ⟨S512x512, .bf16⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S512x96, .f32⟩
  | .local _ .vmem, ⟨24, _⟩ => ⟨S512x96, .f32⟩
  | .local _ .vmem, ⟨25, _⟩ => ⟨S6144x512, .fp8e4m3⟩
  | .local _ .vmem, ⟨26, _⟩ => ⟨S6144x512, .fp8e4m3⟩
  | .local _ .vmem, ⟨27, _⟩ => ⟨S6144x512, .bf16⟩
  | .local _ .vmem, ⟨28, _⟩ => ⟨S6144x512, .bf16⟩
  | .local _ .vmem, ⟨29, _⟩ => ⟨S6144x512, .fp8e4m3⟩
  | .local _ .vmem, ⟨30, _⟩ => ⟨S6144x512, .fp8e4m3⟩
  | .local _ .vmem, ⟨31, _⟩ => ⟨S6144x512, .bf16⟩
  | .local _ .vmem, ⟨32, _⟩ => ⟨S6144x512, .bf16⟩
  | .local _ .vmem, ⟨33, _⟩ => ⟨S6144x512, .bf16⟩
  | .local _ .vmem, ⟨34, _⟩ => ⟨S6144x512, .bf16⟩
  | .local _ .vmem, ⟨35, _⟩ => ⟨S512x1, .f32⟩
  | .local _ .vmem, ⟨36, _⟩ => ⟨S512x1, .f32⟩
  | .local _ .vmem, ⟨37, _⟩ => ⟨S512x1, .f32⟩
  | .local _ .vmem, ⟨38, _⟩ => ⟨S512x1, .f32⟩
  | .local _ .vmem, ⟨39, _⟩ => ⟨S1x512, .f32⟩
  | .local _ .vmem, ⟨40, _⟩ => ⟨S1x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x2560, .bf16⟩
  | .local _ .vmem, ⟨46, _⟩ => ⟨S512x2560, .bf16⟩
  | .local _ .vmem, ⟨47, _⟩ => ⟨S512x2560, .bf16⟩
  | .local _ .vmem, ⟨48, _⟩ => ⟨S512x2560, .bf16⟩
  | .local _ .vmem, ⟨49, _⟩ => ⟨S512x2560, .bf16⟩
  | .local _ .vmem, ⟨50, _⟩ => ⟨S512x2560, .bf16⟩
  | .local _ .vmem, ⟨51, _⟩ => ⟨S512x2560, .bf16⟩
  | .local _ .vmem, ⟨52, _⟩ => ⟨S512x2560, .bf16⟩
  | .local _ .vmem, ⟨53, _⟩ => ⟨S1x2560, .f32⟩
  | .local _ .vmem, ⟨54, _⟩ => ⟨S512x512, .bf16⟩
  | .local _ .vmem, ⟨55, _⟩ => ⟨S512x512, .bf16⟩
  | .local _ .vmem, ⟨56, _⟩ => ⟨S1x512, .f32⟩
  | .local _ .vmem, ⟨57, _⟩ => ⟨S1x512, .f32⟩
  | .local _ .vmem, ⟨58, _⟩ => ⟨S1x512, .f32⟩
  | .local _ .vmem, ⟨59, _⟩ => ⟨S1x512, .f32⟩
  | _, _ => ⟨S6x4096x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg5_1 : Ref sig .tc := ⟨.vmem, 36, rfl⟩
abbrev cc1_stg6_0 : Ref sig .tc := ⟨.vmem, 37, rfl⟩
abbrev cc1_stg6_1 : Ref sig .tc := ⟨.vmem, 38, rfl⟩
abbrev cc1_stg7_0 : Ref sig .tc := ⟨.vmem, 39, rfl⟩
abbrev cc1_stg7_1 : Ref sig .tc := ⟨.vmem, 40, rfl⟩
abbrev cc1_stg8_0 : Ref sig .tc := ⟨.vmem, 41, rfl⟩
abbrev cc1_stg8_1 : Ref sig .tc := ⟨.vmem, 42, rfl⟩
abbrev cc1_stg9_0 : Ref sig .tc := ⟨.vmem, 43, rfl⟩
abbrev cc1_stg9_1 : Ref sig .tc := ⟨.vmem, 44, rfl⟩
abbrev cc2_stg0_0 : Ref sig .tc := ⟨.vmem, 45, rfl⟩
abbrev cc2_stg0_1 : Ref sig .tc := ⟨.vmem, 46, rfl⟩
abbrev cc2_stg1_0 : Ref sig .tc := ⟨.vmem, 47, rfl⟩
abbrev cc2_stg1_1 : Ref sig .tc := ⟨.vmem, 48, rfl⟩
abbrev cc2_stg2_0 : Ref sig .tc := ⟨.vmem, 49, rfl⟩
abbrev cc2_stg2_1 : Ref sig .tc := ⟨.vmem, 50, rfl⟩
abbrev cc2_stg3_0 : Ref sig .tc := ⟨.vmem, 51, rfl⟩
abbrev cc2_stg3_1 : Ref sig .tc := ⟨.vmem, 52, rfl⟩
abbrev cc2_stg4_0 : Ref sig .tc := ⟨.vmem, 53, rfl⟩
abbrev cc2_stg5_0 : Ref sig .tc := ⟨.vmem, 54, rfl⟩
abbrev cc2_stg5_1 : Ref sig .tc := ⟨.vmem, 55, rfl⟩
abbrev cc2_stg6_0 : Ref sig .tc := ⟨.vmem, 56, rfl⟩
abbrev cc2_stg6_1 : Ref sig .tc := ⟨.vmem, 57, rfl⟩
abbrev cc2_stg7_0 : Ref sig .tc := ⟨.vmem, 58, rfl⟩
abbrev cc2_stg7_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34
abbrev cc1_sem5_0 : DmaSem sig := 35
abbrev cc1_sem5_1 : DmaSem sig := 36
abbrev cc1_sem6_0 : DmaSem sig := 37
abbrev cc1_sem6_1 : DmaSem sig := 38
abbrev cc1_sem7_0 : DmaSem sig := 39
abbrev cc1_sem7_1 : DmaSem sig := 40
abbrev cc1_sem8_0 : DmaSem sig := 41
abbrev cc1_sem8_1 : DmaSem sig := 42
abbrev cc1_sem9_0 : DmaSem sig := 43
abbrev cc1_sem9_1 : DmaSem sig := 44
abbrev cc2_sem0_0 : DmaSem sig := 45
abbrev cc2_sem0_1 : DmaSem sig := 46
abbrev cc2_sem1_0 : DmaSem sig := 47
abbrev cc2_sem1_1 : DmaSem sig := 48
abbrev cc2_sem2_0 : DmaSem sig := 49
abbrev cc2_sem2_1 : DmaSem sig := 50
abbrev cc2_sem3_0 : DmaSem sig := 51
abbrev cc2_sem3_1 : DmaSem sig := 52
abbrev cc2_sem4_0 : DmaSem sig := 53
abbrev cc2_sem5_0 : DmaSem sig := 54
abbrev cc2_sem5_1 : DmaSem sig := 55
abbrev cc2_sem6_0 : DmaSem sig := 56
abbrev cc2_sem6_1 : DmaSem sig := 57
abbrev cc2_sem7_0 : DmaSem sig := 58
abbrev cc2_sem7_1 : DmaSem sig := 59

abbrev nD : Nat := 1
abbrev τ : Topo := Topo.v7x

variable {F : FTy → Type} [FloatOps F]

abbrev grid0 : Pipeline.Grid := ⟨2, ![5, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S6144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x96 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x96 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x96 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨2, ![5, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S6144x512 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S6144x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S6144x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S6144x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S6144x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![12, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![v0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage2_0 : Fin 2 → Memref sig .tc .vmem S512x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2560 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x2560 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x2560 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x2560 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]
-- ==== ReferenceIdeal.lean ====
abbrev S6x4096x768 : Shape := ⟨3, ![6, 4096, 768]⟩
abbrev S6x4096x8 : Shape := ⟨3, ![6, 4096, 8]⟩
abbrev S64x96 : Shape := ⟨2, ![64, 96]⟩
abbrev S6144x2560 : Shape := ⟨2, ![6144, 2560]⟩
abbrev S2560x96 : Shape := ⟨2, ![2560, 96]⟩
abbrev S6x127x8x96 : Shape := ⟨4, ![6, 127, 8, 96]⟩
abbrev S6x127x8 : Shape := ⟨3, ![6, 127, 8]⟩
abbrev S6x4096x8x96 : Shape := ⟨4, ![6, 4096, 8, 96]⟩
abbrev S6x4096x8x1 : Shape := ⟨4, ![6, 4096, 8, 1]⟩
abbrev S6x128x32x8x96 : Shape := ⟨5, ![6, 128, 32, 8, 96]⟩
abbrev S6x127x32x8x96 : Shape := ⟨5, ![6, 127, 32, 8, 96]⟩
abbrev S6x127x64x8x96 : Shape := ⟨5, ![6, 127, 64, 8, 96]⟩
abbrev S64x96x2560 : Shape := ⟨3, ![64, 96, 2560]⟩
abbrev S6144 : Shape := ⟨1, ![6144]⟩
abbrev S2560 : Shape := ⟨1, ![2560]⟩
abbrev S6x127x8x2560 : Shape := ⟨4, ![6, 127, 8, 2560]⟩
abbrev S1x1x1x2560 : Shape := ⟨4, ![1, 1, 1, 2560]⟩
abbrev S_ : Shape := ⟨0, ![]⟩
abbrev S6x127x8x1 : Shape := ⟨4, ![6, 127, 8, 1]⟩
abbrev S6144x1 : Shape := ⟨2, ![6144, 1]⟩
abbrev S1x2560 : Shape := ⟨2, ![1, 2560]⟩
abbrev S64x96x6x127x8 : Shape := ⟨5, ![64, 96, 6, 127, 8]⟩

abbrev nBuf : Space → Nat
  | .hbm => 80
  | .vmem => 4
  | .smem => 0
  | _ => 0

abbrev bufTy : (tb : Table) → Fin (tcTables nBuf tb) → BufTy
  | .hbm, ⟨0, _⟩ => ⟨S6x4096x768, .fp8e4m3⟩
  | .hbm, ⟨1, _⟩ => ⟨S6x4096x8, .f32⟩
  | .hbm, ⟨2, _⟩ => ⟨S64x96, .f32⟩
  | .hbm, ⟨3, _⟩ => ⟨S6144x2560, .bf16⟩
  | .hbm, ⟨4, _⟩ => ⟨S2560x96, .bf16⟩
  | .hbm, ⟨5, _⟩ => ⟨S6x127x8x96, .fp8e5m2⟩
  | .hbm, ⟨6, _⟩ => ⟨S6x127x8, .f32⟩
  | .hbm, ⟨7, _⟩ => ⟨S6x4096x768, .bf16⟩
  | .hbm, ⟨8, _⟩ => ⟨S6x127x8x96, .bf16⟩
  | .hbm, ⟨9, _⟩ => ⟨S6x4096x8x96, .bf16⟩
  | .hbm, ⟨10, _⟩ => ⟨S6x4096x8, .bf16⟩
  | .hbm, ⟨11, _⟩ => ⟨S6x4096x8x1, .bf16⟩
  | .hbm, ⟨12, _⟩ => ⟨S6x4096x8x96, .bf16⟩
  | .hbm, ⟨13, _⟩ => ⟨S6x4096x8x96, .bf16⟩
  | .hbm, ⟨14, _⟩ => ⟨S6x128x32x8x96, .bf16⟩
  | .hbm, ⟨15, _⟩ => ⟨S6x127x32x8x96, .bf16⟩
  | .hbm, ⟨16, _⟩ => ⟨S6x127x32x8x96, .bf16⟩
  | .hbm, ⟨17, _⟩ => ⟨S6x127x64x8x96, .bf16⟩
  | .hbm, ⟨18, _⟩ => ⟨S64x96x2560, .bf16⟩
  | .hbm, ⟨19, _⟩ => ⟨S6144, .f32⟩
  | .hbm, ⟨20, _⟩ => ⟨S6144x2560, .f32⟩
  | .hbm, ⟨21, _⟩ => ⟨S2560, .f32⟩
  | .hbm, ⟨22, _⟩ => ⟨S6x127x8x2560, .f32⟩
  | .hbm, ⟨23, _⟩ => ⟨S1x1x1x2560, .f32⟩
  | .hbm, ⟨24, _⟩ => ⟨S6x127x8x2560, .f32⟩
  | .hbm, ⟨25, _⟩ => ⟨S6x127x8x2560, .f32⟩
  | .hbm, ⟨26, _⟩ => ⟨S6x127x8x2560, .f32⟩
  | .hbm, ⟨27, _⟩ => ⟨S6x127x8x2560, .f32⟩
  | .hbm, ⟨28, _⟩ => ⟨S_, .f32⟩
  | .hbm, ⟨29, _⟩ => ⟨S6x127x8x2560, .f32⟩
  | .hbm, ⟨30, _⟩ => ⟨S6x127x8x2560, .f32⟩
  | .hbm, ⟨31, _⟩ => ⟨S_, .f32⟩
  | .hbm, ⟨32, _⟩ => ⟨S6x127x8x2560, .f32⟩
  | .hbm, ⟨33, _⟩ => ⟨S6x127x8x2560, .f32⟩
  | .hbm, ⟨34, _⟩ => ⟨S6x127x8x2560, .f32⟩
  | .hbm, ⟨35, _⟩ => ⟨S6x127x8, .bf16⟩
  | .hbm, ⟨36, _⟩ => ⟨S6x127x8x1, .bf16⟩
  | .hbm, ⟨37, _⟩ => ⟨S6x127x8x96, .bf16⟩
  | .hbm, ⟨38, _⟩ => ⟨S6x127x8x96, .bf16⟩
  | .hbm, ⟨39, _⟩ => ⟨S6x127x8x2560, .bf16⟩
  | .hbm, ⟨40, _⟩ => ⟨S2560x96, .f32⟩
  | .hbm, ⟨41, _⟩ => ⟨S6x127x8x2560, .f32⟩
  | .hbm, ⟨42, _⟩ => ⟨S6x127x8x1, .f32⟩
  | .hbm, ⟨43, _⟩ => ⟨S6x127x8x2560, .f32⟩
  | .hbm, ⟨44, _⟩ => ⟨S6x127x8x2560, .f32⟩
  | .hbm, ⟨45, _⟩ => ⟨S6x127x8x2560, .f32⟩
  | .hbm, ⟨46, _⟩ => ⟨S_, .f32⟩
  | .hbm, ⟨47, _⟩ => ⟨S6x127x8x2560, .f32⟩
  | .hbm, ⟨48, _⟩ => ⟨S6x127x8x2560, .f32⟩
  | .hbm, ⟨49, _⟩ => ⟨S6x127x8x2560, .f32⟩
  | .hbm, ⟨50, _⟩ => ⟨S_, .f32⟩
  | .hbm, ⟨51, _⟩ => ⟨S6x127x8x2560, .f32⟩
  | .hbm, ⟨52, _⟩ => ⟨S6x127x8x2560, .f32⟩
  | .hbm, ⟨53, _⟩ => ⟨S6x127x8x2560, .f32⟩
  | .hbm, ⟨54, _⟩ => ⟨S6x127x8x2560, .bf16⟩
  | .hbm, ⟨55, _⟩ => ⟨S_, .f32⟩
  | .hbm, ⟨56, _⟩ => ⟨S2560, .f32⟩
  | .hbm, ⟨57, _⟩ => ⟨S64x96x2560, .f32⟩
  | .hbm, ⟨58, _⟩ => ⟨S6144x2560, .f32⟩
  | .hbm, ⟨59, _⟩ => ⟨S6144x1, .f32⟩
  | .hbm, ⟨60, _⟩ => ⟨S1x2560, .f32⟩
  | .hbm, ⟨61, _⟩ => ⟨S6144x2560, .f32⟩
  | .hbm, ⟨62, _⟩ => ⟨S6144x2560, .f32⟩
  | .hbm, ⟨63, _⟩ => ⟨S6144x2560, .f32⟩
  | .hbm, ⟨64, _⟩ => ⟨S6144x2560, .f32⟩
  | .hbm, ⟨65, _⟩ => ⟨S64x96x6x127x8, .f32⟩
  | .hbm, ⟨66, _⟩ => ⟨S6x127x64x8x96, .f32⟩
  | .hbm, ⟨67, _⟩ => ⟨S_, .f32⟩
  | .hbm, ⟨68, _⟩ => ⟨S64x96, .f32⟩
  | .hbm, ⟨69, _⟩ => ⟨S6x127x32x8x96, .f32⟩
  | .hbm, ⟨70, _⟩ => ⟨S_, .i32⟩
  | .hbm, ⟨71, _⟩ => ⟨S_, .f32⟩
  | .hbm, ⟨72, _⟩ => ⟨S6x128x32x8x96, .f32⟩
  | .hbm, ⟨73, _⟩ => ⟨S6x127x32x8x96, .f32⟩
  | .hbm, ⟨74, _⟩ => ⟨S_, .i32⟩
  | .hbm, ⟨75, _⟩ => ⟨S_, .f32⟩
  | .hbm, ⟨76, _⟩ => ⟨S6x128x32x8x96, .f32⟩
  | .hbm, ⟨77, _⟩ => ⟨S6x128x32x8x96, .f32⟩
  | .hbm, ⟨78, _⟩ => ⟨S6x4096x768, .f32⟩
  | .hbm, ⟨79, _⟩ => ⟨S6x4096x768, .bf16⟩
  | .local _ .vmem, ⟨0, _⟩ => ⟨S6x4096x768, .fp8e4m3⟩
  | .local _ .vmem, ⟨1, _⟩ => ⟨S6x127x8x96, .fp8e5m2⟩
  | .local _ .vmem, ⟨2, _⟩ => ⟨S6x4096x768, .bf16⟩
  | .local _ .vmem, ⟨3, _⟩ => ⟨S6x127x8x96, .bf16⟩
  | _, _ => ⟨S6x4096x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_c : Ref sig .tc := ⟨.hbm, 70, rfl⟩
abbrev main_call0_v0 : Ref sig .tc := ⟨.hbm, 71, rfl⟩
abbrev main_v56 : Ref sig .tc := ⟨.hbm, 72, rfl⟩
abbrev main_v57 : Ref sig .tc := ⟨.hbm, 73, rfl⟩
abbrev main_c_5 : Ref sig .tc := ⟨.hbm, 74, rfl⟩
abbrev main_call1_v0 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x4096x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x127x8x96 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4096x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x127x8x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Stage.lean ====
abbrev S6144x2560 : Shape := ⟨2, ![6144, 2560]⟩
abbrev S1x2560 : Shape := ⟨2, ![1, 2560]⟩
abbrev S_ : Shape := ⟨0, ![]⟩
abbrev S48x2560 : Shape := ⟨2, ![48, 2560]⟩
abbrev S6096x2560 : Shape := ⟨2, ![6096, 2560]⟩
abbrev S6144x3072 : Shape := ⟨2, ![6144, 3072]⟩
abbrev S1x3072 : Shape := ⟨2, ![1, 3072]⟩
abbrev S512x2560 : Shape := ⟨2, ![512, 2560]⟩
abbrev S512x512 : Shape := ⟨2, ![512, 512]⟩
abbrev S1x512 : Shape := ⟨2, ![1, 512]⟩
abbrev S13x2560 : Shape := ⟨2, ![13, 2560]⟩
abbrev S16x2560 : Shape := ⟨2, ![16, 2560]⟩
abbrev S16x512 : Shape := ⟨2, ![16, 512]⟩
abbrev S512 : Shape := ⟨1, ![512]⟩
abbrev S1x6144 : Shape := ⟨2, ![1, 6144]⟩
abbrev S64x96 : Shape := ⟨2, ![64, 96]⟩

abbrev nBuf : Space → Nat
  | .hbm => 12
  | .vmem => 15
  | .smem => 0
  | _ => 0

abbrev bufTy : (tb : Table) → Fin (tcTables nBuf tb) → BufTy
  | .hbm, ⟨0, _⟩ => ⟨S6144x2560, .bf16⟩
  | .hbm, ⟨1, _⟩ => ⟨S1x2560, .f32⟩
  | .hbm, ⟨2, _⟩ => ⟨S6144x2560, .bf16⟩
  | .hbm, ⟨3, _⟩ => ⟨S_, .bf16⟩
  | .hbm, ⟨4, _⟩ => ⟨S48x2560, .bf16⟩
  | .hbm, ⟨5, _⟩ => ⟨S6096x2560, .bf16⟩
  | .hbm, ⟨6, _⟩ => ⟨S6144x2560, .bf16⟩
  | .hbm, ⟨7, _⟩ => ⟨S6144x3072, .bf16⟩
  | .hbm, ⟨8, _⟩ => ⟨S1x3072, .f32⟩
  | .hbm, ⟨9, _⟩ => ⟨S1x3072, .f32⟩
  | .hbm, ⟨10, _⟩ => ⟨S1x6144, .f32⟩
  | .hbm, ⟨11, _⟩ => ⟨S64x96, .f32⟩
  | .local _ .vmem, ⟨0, _⟩ => ⟨S512x2560, .bf16⟩
  | .local _ .vmem, ⟨1, _⟩ => ⟨S512x2560, .bf16⟩
  | .local _ .vmem, ⟨2, _⟩ => ⟨S512x2560, .bf16⟩
  | .local _ .vmem, ⟨3, _⟩ => ⟨S512x2560, .bf16⟩
  | .local _ .vmem, ⟨4, _⟩ => ⟨S512x2560, .bf16⟩
  | .local _ .vmem, ⟨5, _⟩ => ⟨S512x2560, .bf16⟩
  | .local _ .vmem, ⟨6, _⟩ => ⟨S512x2560, .bf16⟩
  | .local _ .vmem, ⟨7, _⟩ => ⟨S512x2560, .bf16⟩
  | .local _ .vmem, ⟨8, _⟩ => ⟨S1x2560, .f32⟩
  | .local _ .vmem, ⟨9, _⟩ => ⟨S512x512, .bf16⟩
  | .local _ .vmem, ⟨10, _⟩ => ⟨S512x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | _, _ => ⟨S6144x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![12, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== StageReferenceIdeal.lean ====
abbrev S6144x2560 : Shape := ⟨2, ![6144, 2560]⟩
abbrev S1x2560 : Shape := ⟨2, ![1, 2560]⟩
abbrev S2560 : Shape := ⟨1, ![2560]⟩
abbrev S6144 : Shape := ⟨1, ![6144]⟩
abbrev S64x96 : Shape := ⟨2, ![64, 96]⟩

abbrev nBuf : Space → Nat
  | .hbm => 7
  | .vmem => 0
  | .smem => 0
  | _ => 0

abbrev bufTy : (tb : Table) → Fin (tcTables nBuf tb) → BufTy
  | .hbm, ⟨0, _⟩ => ⟨S6144x2560, .bf16⟩
  | .hbm, ⟨1, _⟩ => ⟨S1x2560, .f32⟩
  | .hbm, ⟨2, _⟩ => ⟨S6144x2560, .bf16⟩
  | .hbm, ⟨3, _⟩ => ⟨S6144x2560, .f32⟩
  | .hbm, ⟨4, _⟩ => ⟨S2560, .f32⟩
  | .hbm, ⟨5, _⟩ => ⟨S6144, .f32⟩
  | .hbm, ⟨6, _⟩ => ⟨S64x96, .f32⟩
  | _, _ => ⟨S6144x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Spec.lean ====
/- What both programs compute, as functions of the arguments: the key compressor's backward pass by batch, window, head
   and hidden unit, and the gradients summed from it. No program is mentioned. -/
module

public import Idealize.ShloMosaic.Lib.ValueIdx
public import Idealize.ShloMosaic.Lib.Pointwise
public import Idealize.ShloMosaic.PureOps.Ideal.Laws

@[expose] public section

noncomputable section

namespace Cert.Spec

open Idealize.ShloMosaic Idealize.ShloMosaic.Pointwise

/-- The derivative of `z * logistic z`, times a gradient `dh`. -/
def siluGrad (dh z : EReal) : EReal := dh * Ideal.logistic z * (1 + z * (1 - Ideal.logistic z))

theorem siluGrad_zero (z : EReal) : siluGrad 0 z = 0 := by unfold siluGrad; rw [zero_mul, zero_mul]

theorem ix3_eq {n0 n1 n2 : Nat} {a a' : Fin n0} {b b' : Fin n1} {c c' : Fin n2} (ha : a.val = a'.val) (hb : b.val = b'.val)
    (hc : c.val = c'.val) : (ix3 a b c : (⟨3, ![n0, n1, n2]⟩ : Shape).Idx) = ix3 a' b' c' := by
  rw [Fin.ext ha, Fin.ext hb, Fin.ext hc]
theorem ix4_eq {n0 n1 n2 n3 : Nat} {a a' : Fin n0} {b b' : Fin n1} {c c' : Fin n2} {d d' : Fin n3} (ha : a.val = a'.val)
    (hb : b.val = b'.val) (hc : c.val = c'.val) (hd : d.val = d'.val) :
    (ix4 a b c d : (⟨4, ![n0, n1, n2, n3]⟩ : Shape).Idx) = ix4 a' b' c' d' := by
  rw [Fin.ext ha, Fin.ext hb, Fin.ext hc, Fin.ext hd]
theorem ix2_eq {n0 n1 : Nat} {a a' : Fin n0} {b b' : Fin n1} (ha : a.val = a'.val) (hb : b.val = b'.val) :
    (ix2 a b : (⟨2, ![n0, n1]⟩ : Shape).Idx) = ix2 a' b' := by
  rw [Fin.ext ha, Fin.ext hb]

/-! ## The sums the two programs arrange differently -/

/-- A sum over a window's lanes is the sum over its two halves. -/
theorem sum_halves (F : Fin 6144 → EReal) :
    ∑ x : Fin 6144, F x = ∑ q : Fin 3072, F ⟨q.val, by omega⟩ + ∑ q : Fin 3072, F ⟨3072 + q.val, by omega⟩ :=
  Fin.sum_univ_add (a := 3072) (b := 3072) F

/-- A sum over the lanes of a window is the sum over its positions and their features. -/
theorem sum_lanes (F : Fin 6144 → EReal) :
    ∑ x : Fin 6144, F x = ∑ d : Fin 96, ∑ j : Fin 64, F ⟨j.val * 96 + d.val, by omega⟩ := by
  rw [Finset.sum_comm, ← Fintype.sum_prod_type']
  refine (Fintype.sum_equiv (finProdFinEquiv (m := 64) (n := 96)) _ _ fun k => ?_).symm
  exact congrArg F (Fin.ext (by simp [finProdFinEquiv]; omega))

/-- The row of a chunk, a batch element and a head. -/
def row (b : Fin 6) (i : Fin 128) (h : Fin 8) : Fin 6144 := ⟨i.val * 48 + b.val * 8 + h.val, by omega⟩

/-- A sum over all rows is the sum over chunks, batch elements and heads. -/
theorem sum_row (F : Fin 6144 → EReal) :
    ∑ r : Fin 6144, F r = ∑ i : Fin 128, ∑ b : Fin 6, ∑ h : Fin 8, F (row b i h) := by
  have h1 : ∀ i : Fin 128, ∑ b : Fin 6, ∑ h : Fin 8, F (row b i h) = ∑ y : Fin 48, F ⟨i.val * 48 + y.val, by omega⟩ := by
    intro i
    rw [← Fintype.sum_prod_type']
    refine Fintype.sum_equiv (finProdFinEquiv (m := 6) (n := 8)) _ _ fun k => ?_
    exact congrArg F (Fin.ext (by simp [finProdFinEquiv, row]; omega))
  simp only [h1]
  rw [← Fintype.sum_prod_type']
  refine (Fintype.sum_equiv (finProdFinEquiv (m := 128) (n := 48)) _ _ fun k => ?_).symm
  exact congrArg F (Fin.ext (by simp [finProdFinEquiv]; omega))

/-- A sum over all rows, the last chunk's rows contributing nothing, is the sum over batch, window and head. -/
theorem sum_rows (F : Fin 6144 → EReal) (h0 : ∀ r : Fin 6144, 6096 ≤ r.val → F r = 0) :
    ∑ r : Fin 6144, F r = ∑ b : Fin 6, ∑ i : Fin 127, ∑ h : Fin 8, F (row b i.castSucc h) := by
  rw [sum_row, Fin.sum_univ_castSucc]
  have hl : ∑ b : Fin 6, ∑ h : Fin 8, F (row b (Fin.last 127) h) = 0 :=
    Finset.sum_eq_zero fun b _ => Finset.sum_eq_zero fun h _ => h0 _ (by show 6096 ≤ 127 * 48 + b.val * 8 + h.val; omega)
  rw [hl, add_zero, Finset.sum_comm]

/-! ## The backward pass -/

variable (k : (⟨3, ![6, 4096, 768]⟩ : Shape).Idx → EReal) (ks : (⟨3, ![6, 4096, 8]⟩ : Shape).Idx → EReal)
  (pe : (⟨2, ![64, 96]⟩ : Shape).Idx → EReal) (w1 : (⟨2, ![6144, 2560]⟩ : Shape).Idx → EReal)
  (w2 : (⟨2, ![2560, 96]⟩ : Shape).Idx → EReal) (dck : (⟨4, ![6, 127, 8, 96]⟩ : Shape).Idx → EReal)
  (dsc : (⟨3, ![6, 127, 8]⟩ : Shape).Idx → EReal)

/-- The key at lane `x` of window `i` (64 positions from `32 i`, 96 features each), of batch element `b` and head `h`. -/
def keyAt (b : Fin 6) (i : Fin 127) (h : Fin 8) (x : Fin 6144) : EReal :=
  k (ix3 b ⟨i.val * 32 + x.val / 96, by omega⟩ ⟨h.val * 96 + x.val % 96, by omega⟩)
    * ks (ix3 b ⟨i.val * 32 + x.val / 96, by omega⟩ h)

/-- The position embedding at a lane. -/
def peAt (x : Fin 6144) : EReal := pe (ix2 ⟨x.val / 96, by omega⟩ ⟨x.val % 96, by omega⟩)

/-- The pre-activation. -/
def preAct (b : Fin 6) (i : Fin 127) (h : Fin 8) (f : Fin 2560) : EReal :=
  ∑ x : Fin 6144, keyAt k ks b i h x * w1 (ix2 x f) + ∑ x : Fin 6144, peAt pe x * w1 (ix2 x f)

/-- The activation's gradient. -/
def dHid (b : Fin 6) (i : Fin 127) (h : Fin 8) (f : Fin 2560) : EReal :=
  (∑ e : Fin 96, dck (ix4 b i h e) * w2 (ix2 f e)) * dsc (ix3 b i h)

/-- The pre-activation's gradient. -/
def dPre (b : Fin 6) (i : Fin 127) (h : Fin 8) (f : Fin 2560) : EReal :=
  siluGrad (dHid w2 dck dsc b i h f) (preAct k ks pe w1 b i h f)

/-- The first weight's gradient. -/
def dW1 (x : Fin 6144) (f : Fin 2560) : EReal :=
  ∑ b : Fin 6, ∑ i : Fin 127, ∑ h : Fin 8, keyAt k ks b i h x * dPre k ks pe w1 w2 dck dsc b i h f
    + peAt pe x * ∑ b : Fin 6, ∑ i : Fin 127, ∑ h : Fin 8, dPre k ks pe w1 w2 dck dsc b i h f

/-- The second weight's gradient. -/
def dW2 (f : Fin 2560) (e : Fin 96) : EReal :=
  ∑ b : Fin 6, ∑ i : Fin 127, ∑ h : Fin 8,
    preAct k ks pe w1 b i h f * Ideal.logistic (preAct k ks pe w1 b i h f) * (dck (ix4 b i h e) * dsc (ix3 b i h))

/-- The keys' gradient, at position `s` of chunk `c`: from the window that begins with the chunk and from the one that
    ends with it. -/
def dK (b : Fin 6) (c : Fin 128) (s : Fin 32) (h : Fin 8) (d : Fin 96) : EReal :=
  (if hc : c.val < 127 then
      ∑ f : Fin 2560, dPre k ks pe w1 w2 dck dsc b ⟨c.val, hc⟩ h f * w1 (ix2 ⟨s.val * 96 + d.val, by omega⟩ f) else 0)
    + (if hc : 1 ≤ c.val then
      ∑ f : Fin 2560, dPre k ks pe w1 w2 dck dsc b ⟨c.val - 1, by omega⟩ h f * w1 (ix2 ⟨3072 + (s.val * 96 + d.val), by omega⟩ f)
      else 0)

end Cert.Spec
-- ==== Proof.HostReads.lean ====
/- The arrays the host prepares for the kernel's three regions, and the results it lays out from them, read at an index. -/
module

public import proofs.«01_k».proof.Proof.Gen.KernelIdeal.Frame
public import proofs.«01_k».proof.Proof.Spec
public import Idealize.ShloMosaic.Lib.StableHlo.ReadAt
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Gen

open Idealize.ShloMosaic Idealize.ShloMosaic.TcCoe Idealize.ShloMosaic.Pointwise Cert.Spec

variable (V : Valuation τ sig (Elt Ideal))

/-! ## Before the first region -/

/-- A row of the codes is its chunk's 32 positions, at its batch element and head. -/
theorem codes_at (b : Fin 6) (i : Fin 128) (h : Fin 8) (q : Fin 3072) (r : Fin 6144)
    (hr : r.val = i.val * 48 + b.val * 8 + h.val) :
    StableHlo.after hostOps0 V (Proc.devRef .tc main_v2) (ix2 r q)
      = V (Proc.devRef .tc main_arg0) (ix3 b ⟨i.val * 32 + q.val / 96, by omega⟩ ⟨h.val * 96 + q.val % 96, by omega⟩) := by
  after_reads_at <;> exact congrArg _ (ix3_eq (by dsimp only; omega) (by dsimp only; omega) (by dsimp only; omega))
/-- A row of the scales. -/
theorem scales_at (b : Fin 6) (i : Fin 128) (h : Fin 8) (q : Fin 3072) (r : Fin 6144)
    (hr : r.val = i.val * 48 + b.val * 8 + h.val) :
    StableHlo.after hostOps0 V (Proc.devRef .tc main_v8) (ix2 r q)
      = V (Proc.devRef .tc main_arg1) (ix3 b ⟨i.val * 32 + q.val / 96, by omega⟩ h) := by
  after_reads_at <;> exact congrArg _ (ix3_eq (by dsimp only; omega) (by dsimp only; omega) (by dsimp only; omega))
/-- A row of the shifted codes is the next chunk's positions. -/
theorem codesNext_at (b : Fin 6) (i : Fin 127) (h : Fin 8) (q : Fin 3072) (r : Fin 6144)
    (hr : r.val = i.val * 48 + b.val * 8 + h.val) :
    StableHlo.after hostOps0 V (Proc.devRef .tc main_v12) (ix2 r q)
      = V (Proc.devRef .tc main_arg0) (ix3 b ⟨i.val * 32 + (3072 + q.val) / 96, by omega⟩ ⟨h.val * 96 + (3072 + q.val) % 96, by omega⟩) := by
  after_reads_at
  rw [dif_pos (show r.val < 6096 by omega)]
  exact congrArg _ (ix3_eq (by dsimp only; omega) (by dsimp only; omega) (by dsimp only; omega))
/-- A row of the shifted scales. -/
theorem scalesNext_at (b : Fin 6) (i : Fin 127) (h : Fin 8) (q : Fin 3072) (r : Fin 6144)
    (hr : r.val = i.val * 48 + b.val * 8 + h.val) :
    StableHlo.after hostOps0 V (Proc.devRef .tc main_v15) (ix2 r q)
      = V (Proc.devRef .tc main_arg1) (ix3 b ⟨i.val * 32 + (3072 + q.val) / 96, by omega⟩ h) := by
  after_reads_at
  rw [dif_pos (show r.val < 6096 by omega)]
  exact congrArg _ (ix3_eq (by dsimp only; omega) (by dsimp only; omega) (by dsimp only; omega))
/-- A row of the output gradient's codes. -/
theorem dck_at (b : Fin 6) (i : Fin 127) (h : Fin 8) (e : Fin 96) (r : Fin 6144)
    (hr : r.val = i.val * 48 + b.val * 8 + h.val) :
    StableHlo.after hostOps0 V (Proc.devRef .tc main_v19) (ix2 r e)
      = V (Proc.devRef .tc main_arg5) (ix4 b i h e) := by
  after_reads_at
  rw [dif_pos (by omega)]
  exact congrArg _ (ix4_eq (by dsimp only; omega) (by dsimp only; omega) (by dsimp only; omega) rfl)
/-- The last chunk's rows of it are zero. -/
theorem dck_last (r : Fin 6144) (hr : 6096 ≤ r.val) (e : Fin 96) :
    StableHlo.after hostOps0 V (Proc.devRef .tc main_v19) (ix2 r e) = (0 : EReal) := by
  after_reads_at
  rw [dif_neg (by omega)]
  exact Ideal.ofBits_zero _
/-- A row of the output gradient's scale. -/
theorem dsc_at (b : Fin 6) (i : Fin 127) (h : Fin 8) (r : Fin 6144)
    (hr : r.val = i.val * 48 + b.val * 8 + h.val) :
    StableHlo.after hostOps0_2 (StableHlo.after hostOps0_1 V) (Proc.devRef .tc main_v22) (ix2 r 0)
      = V (Proc.devRef .tc main_arg6) (ix3 b i h) := by
  after_reads_at
  rw [dif_pos (by omega)]
  exact congrArg _ (ix3_eq (by dsimp only; omega) (by dsimp only; omega) (by dsimp only; omega))
/-- The position embedding as a row. -/
theorem peRow_at (x : Fin 6144) :
    StableHlo.after hostOps0_2 V (Proc.devRef .tc main_v23) (ix2 0 x) = peAt (V (Proc.devRef .tc main_arg2)) x := by
  unfold peAt
  after_reads_at
/-- The position embedding as a column. -/
theorem peCol_at (x : Fin 6144) :
    StableHlo.after hostOps0_2 V (Proc.devRef .tc main_v24) (ix2 x 0) = peAt (V (Proc.devRef .tc main_arg2)) x := by
  unfold peAt
  after_reads_at

/-! ## Between the regions -/

/-- The column's upper half. -/
theorem peColA_at (q : Fin 3072) :
    StableHlo.after hostOps1 V (Proc.devRef .tc main_v26) (ix2 q 0) = V (Proc.devRef .tc main_v24) (ix2 ⟨q.val, by omega⟩ 0) := by
  after_reads_at
/-- The column's lower half. -/
theorem peColB_at (q : Fin 3072) :
    StableHlo.after hostOps1 V (Proc.devRef .tc main_v27) (ix2 q 0) = V (Proc.devRef .tc main_v24) (ix2 ⟨3072 + q.val, by omega⟩ 0) := by
  after_reads_at
/-- The first weight's gradient is its two halves, one above the other: the upper one. -/
theorem dw1_upper (q : Fin 3072) (f : Fin 2560) :
    StableHlo.after hostOps2 V (Proc.devRef .tc main_v29) (ix2 ⟨q.val, by omega⟩ f) = V (Proc.devRef .tc main_v28_0) (ix2 q f) := by
  after_reads_at
/-- The lower one. -/
theorem dw1_lower (q : Fin 3072) (f : Fin 2560) :
    StableHlo.after hostOps2 V (Proc.devRef .tc main_v29) (ix2 ⟨3072 + q.val, by omega⟩ f) = V (Proc.devRef .tc main_v28_1) (ix2 q f) := by
  after_reads_at
/-- The previous chunk's gradient rows: none before the first chunk. -/
theorem dprev_first (r : Fin 6144) (hr : r.val < 48) (f : Fin 2560) :
    StableHlo.after hostOps2 V (Proc.devRef .tc main_v32) (ix2 r f) = (0 : EReal) := by
  after_reads_at
  rw [dif_pos hr]
/-- The gradient rows shifted by one chunk. -/
theorem dprev_at (r s : Fin 6144) (hr : r.val = 48 + s.val) (f : Fin 2560) :
    StableHlo.after hostOps2 V (Proc.devRef .tc main_v32) (ix2 r f) = V (Proc.devRef .tc main_v25_0) (ix2 s f) := by
  after_reads_at
  rw [dif_neg (by omega)]
  exact congrArg _ (ix2_eq (by dsimp only; omega) rfl)

/-! ## After the last region -/

/-- The keys' gradient laid out by position: each element is its chunk's row at its lane. -/
theorem dkOut_at (b : Fin 6) (k : Fin 4096) (l : Fin 768) (r : Fin 6144) (q : Fin 3072)
    (hr : r.val = k.val / 32 * 48 + b.val * 8 + l.val / 96) (hq : q.val = k.val % 32 * 96 + l.val % 96) :
    StableHlo.after hostOps3 V (Proc.devRef .tc main_v36) (ix3 b k l) = V (Proc.devRef .tc main_v33_0) (ix2 r q) := by
  after_reads_at <;> exact congrArg _ (ix2_eq (by dsimp only; omega) (by dsimp only; omega))

end Cert.KernelIdeal.Gen
-- ==== Proof.KPay.lean ====
/- The kernel bodies' values over the extended reals, read at an index: each named payload of the three bodies as sums
   and products of the blocks' elements. -/
module

public import proofs.«01_k».proof.Proof.Gen.KernelIdeal.Skeleton
public import Idealize.ShloMosaic.Lib.Pointwise

@[expose] public section

set_option maxRecDepth 16384

noncomputable section

namespace Cert.KernelIdeal.Gen

open Idealize.ShloMosaic Idealize.ShloMosaic.Pointwise

/-! ## The first body: pre-activation, its gradient and the sums over the rows -/

/-- The row's constant term. The body splits `pe` into a rounded part and two remainders; where `pe` is finite
    (`x - x = 0`) the remainders vanish over the reals and what is left is `pe` times the weights. -/
theorem k0_pay3_apply (pe : Vec Ideal S1x6144 .f32) (wa wb : Vec Ideal S3072x512 .bf16) (hpe : ∀ j, pe j - pe j = 0)
    (j0 : Fin 1) (j1 : Fin 512) :
    k0_pay3 pe wa wb (ix2 j0 j1) = ∑ q : Fin 3072, pe (ix2 0 ⟨q.val, by omega⟩) * wa (ix2 q j1)
      + ∑ q : Fin 3072, pe (ix2 0 ⟨3072 + q.val, by omega⟩) * wb (ix2 q j1) := by
  pointwise [k0_pay3]
  refine (Finset.sum_eq_single (0 : Fin 16) (fun x _ hx => ?_) (by simp)).trans ?_
  · have hx' : ¬ (x.val < 1) := fun h => hx (Fin.ext (by simp; omega))
    simp only [dif_neg hx', hpe, sub_zero, dite_eq_ite, ite_self, zero_mul, Finset.sum_const_zero, add_zero]
  · rfl

theorem k0_pay4_apply (x : Vec Ideal S512x3072 .fp8e4m3) (s : Vec Ideal S512x3072 .bf16) (j) :
    k0_pay4 x s j = x j * s j := by
  idx_vars j
  pointwise [k0_pay4]

theorem k0_pay5_apply (x : Vec Ideal S512x3072 .fp8e4m3) (s : Vec Ideal S512x3072 .bf16) (w : Vec Ideal S3072x512 .bf16)
    (j0 j1 : Fin 512) :
    k0_pay5 x s w (ix2 j0 j1) = ∑ q : Fin 3072, x (ix2 j0 q) * s (ix2 j0 q) * w (ix2 q j1) := by
  pointwise [k0_pay5]

theorem k0_pay6_apply (c : FVec Ideal S1x512 .f32) (xb : FVec Ideal S512x3072 .bf16) (za : FVec Ideal S512x512 .f32)
    (wb : Vec Ideal S3072x512 .bf16) (j0 j1 : Fin 512) :
    k0_pay6 c xb za wb (ix2 j0 j1) = za (ix2 j0 j1) + ∑ q : Fin 3072, xb (ix2 j0 q) * wb (ix2 q j1) + c (ix2 0 j1) := by
  pointwise [k0_pay6]

/-- The activation: the pre-activation times its logistic. -/
theorem k0_pay8_apply (c : FVec Ideal S1x512 .f32) (xb : FVec Ideal S512x3072 .bf16) (za : FVec Ideal S512x512 .f32)
    (wb : Vec Ideal S3072x512 .bf16) (j) :
    k0_pay8 c xb za wb j = k0_pay6 c xb za wb j * Ideal.logistic (k0_pay6 c xb za wb j) := by
  idx_vars j
  pointwise [k0_pay8, k0_pay7]

theorem k0_pay9_apply (x : Vec Ideal S512x96 .fp8e5m2) (j) : k0_pay9 x j = x j := by
  idx_vars j
  pointwise [k0_pay9]

theorem k0_pay10_apply (x : Vec Ideal S512x1 .f32) (j) : k0_pay10 x j = x j := by
  idx_vars j
  pointwise [k0_pay10]

/-- The gradient of the pre-activation. -/
theorem k0_pay11_apply (c : FVec Ideal S1x512 .f32) (xb : FVec Ideal S512x3072 .bf16) (za : FVec Ideal S512x512 .f32)
    (wb : Vec Ideal S3072x512 .bf16) (d : Vec Ideal S512x96 .fp8e5m2) (s : Vec Ideal S512x1 .f32)
    (w2 : Vec Ideal S512x96 .bf16) (j0 j1 : Fin 512) :
    k0_pay11 c xb za wb d s w2 (ix2 j0 j1)
      = (∑ x : Fin 96, d (ix2 j0 x) * w2 (ix2 j1 x)) * s (ix2 j0 0) * Ideal.logistic (k0_pay6 c xb za wb (ix2 j0 j1))
        * (1 + k0_pay6 c xb za wb (ix2 j0 j1) * (1 - Ideal.logistic (k0_pay6 c xb za wb (ix2 j0 j1)))) := by
  pointwise [k0_pay11, k0_pay10, k0_pay9, k0_pay7]

theorem k0_pay12_eq (c : FVec Ideal S1x512 .f32) (xb : FVec Ideal S512x3072 .bf16) (za : FVec Ideal S512x512 .f32)
    (wb : Vec Ideal S3072x512 .bf16) (d : Vec Ideal S512x96 .fp8e5m2) (s : Vec Ideal S512x1 .f32)
    (w2 : Vec Ideal S512x96 .bf16) (j) :
    k0_pay12 c xb za wb d s w2 j = k0_pay11 c xb za wb d s w2 j := by
  idx_vars j
  pointwise [k0_pay12]

theorem k0_pay13_apply (j) : k0_pay13 (F := Ideal) j = 0 := by
  idx_vars j
  pointwise [k0_pay13]

theorem k0_pay14_apply (j) : k0_pay14 (F := Ideal) j = 0 := by
  idx_vars j
  pointwise [k0_pay14]

theorem k0_pay15_apply (j) : k0_pay15 (F := Ideal) j = 0 := by
  idx_vars j
  pointwise [k0_pay15]

/-- One step of the column sums of the gradient. -/
theorem k0_pay16_apply (c : FVec Ideal S1x512 .f32) (xb : FVec Ideal S512x3072 .bf16) (za : FVec Ideal S512x512 .f32)
    (wb : Vec Ideal S3072x512 .bf16) (d : Vec Ideal S512x96 .fp8e5m2) (s : Vec Ideal S512x1 .f32)
    (w2 : Vec Ideal S512x96 .bf16) (a : Vec Ideal S1x512 .f32) (j0 : Fin 1) (j1 : Fin 512) :
    k0_pay16 c xb za wb d s w2 a (ix2 j0 j1)
      = a (ix2 j0 j1) + ∑ x : Fin 512, k0_pay11 c xb za wb d s w2 (ix2 x j1) := by
  pointwise [k0_pay16]

/-- One step of the second weight's gradient. -/
theorem k0_pay2_apply (h : FVec Ideal S512x512 .f32) (d : FVec Ideal S512x96 .bf16) (s : FVec Ideal S512x1 .f32)
    (a : Vec Ideal S512x96 .f32) (j0 : Fin 512) (j1 : Fin 96) :
    k0_pay2 h d s a (ix2 j0 j1) = a (ix2 j0 j1) + ∑ x : Fin 512, h (ix2 x j0) * (d (ix2 x j1) * s (ix2 x 0)) := by
  pointwise [k0_pay2]

/-! ## The second body: the first weight's gradient -/

theorem k1_pay2_apply (v0 : Vec Ideal S6144x512 .bf16) (v2 : Vec Ideal S6144x512 .fp8e4m3) (v5 : Vec Ideal S6144x512 .bf16)
    (v15 : Vec Ideal S512x1 .f32) (v17 : Vec Ideal S1x512 .f32) (j0 j1 : Fin 512) :
    k1_pay2 v0 v2 v5 v15 v17 (ix2 j0 j1)
      = ∑ x : Fin 6144, v2 (ix2 x j0) * v5 (ix2 x j0) * v0 (ix2 x j1) + v15 (ix2 j0 0) * v17 (ix2 0 j1) := by
  pointwise [k1_pay2, k1_pay1]

theorem k1_pay3_apply (v0 : Vec Ideal S6144x512 .bf16) (v2 : Vec Ideal S6144x512 .fp8e4m3) (v5 : Vec Ideal S6144x512 .bf16)
    (v15 : Vec Ideal S512x1 .f32) (v17 : Vec Ideal S1x512 .f32) (j0 j1 : Fin 512) :
    k1_pay3 v0 v2 v5 v15 v17 (ix2 j0 j1)
      = ∑ x : Fin 6144, v2 (ix2 x j0) * v5 (ix2 x j0) * v0 (ix2 x j1) + v15 (ix2 j0 0) * v17 (ix2 0 j1) := by
  pointwise [k1_pay3, k1_pay1]

/-! ## The third body: the keys' gradient -/

theorem k2_pay1_apply (wa wb da db : Vec Ideal S512x2560 .bf16) (j0 j1 : Fin 512) :
    k2_pay1 wa wb da db (ix2 j0 j1)
      = ∑ x : Fin 2560, da (ix2 j0 x) * wa (ix2 j1 x) + ∑ x : Fin 2560, db (ix2 j0 x) * wb (ix2 j1 x) := by
  pointwise [k2_pay1]

end Cert.KernelIdeal.Gen

end
-- ==== Proof.Region0.lean ====
/- The first region's arrays: the pre-activation's gradient, its column sums and the second weight's gradient. -/
module

public import proofs.«01_k».proof.Proof.Gen.KernelIdeal.Frame
public import proofs.«01_k».proof.Proof.KPay
public import proofs.«01_k».proof.Proof.Spec
public import Idealize.ShloMosaic.Lib.Pipeline.ValueKit
public import Idealize.ShloMosaic.Lib.Pipeline.Covers

@[expose] public section

set_option maxRecDepth 16384

noncomputable section

namespace Cert.KernelIdeal.Gen

open Idealize.ShloMosaic Idealize.ShloMosaic.TcCoe Idealize.ShloMosaic.Pointwise Cert.Spec
open Idealize.ShloMosaic.Pipeline (Dat Cfg Window)

/-! ## The mathematics of the region, by rows -/

/-- No element of the position embedding is infinite: over the extended reals `x - x = 0` says just that. -/
def FiniteRow (pe : FVec Ideal S1x6144 .f32) : Prop := ∀ j, pe j - pe j = 0

/-- The pre-activation of a row and a hidden unit: the two halves of the row's window against the weight, and the
    position embedding against the weight. -/
def preAt (xc : FVec Ideal S6144x3072 .fp8e4m3) (xs : FVec Ideal S6144x3072 .bf16) (xbc : FVec Ideal S6144x3072 .fp8e4m3)
    (xbs : FVec Ideal S6144x3072 .bf16) (w1 : FVec Ideal S6144x2560 .bf16) (pe : FVec Ideal S1x6144 .f32)
    (r : Fin 6144) (f : Fin 2560) : EReal :=
  ∑ q : Fin 3072, xc (ix2 r q) * xs (ix2 r q) * w1 (ix2 (⟨q.val, by omega⟩ : Fin 6144) f)
    + ∑ q : Fin 3072, xbc (ix2 r q) * xbs (ix2 r q) * w1 (ix2 (⟨3072 + q.val, by omega⟩ : Fin 6144) f)
    + (∑ q : Fin 3072, pe (ix2 0 (⟨q.val, by omega⟩ : Fin 6144)) * w1 (ix2 (⟨q.val, by omega⟩ : Fin 6144) f)
      + ∑ q : Fin 3072, pe (ix2 0 (⟨3072 + q.val, by omega⟩ : Fin 6144)) * w1 (ix2 (⟨3072 + q.val, by omega⟩ : Fin 6144) f))

/-- The gradient of the activation: the output gradient through the second weight, times the row's scale. -/
def dhidAt (w2 : FVec Ideal S2560x96 .bf16) (dck : FVec Ideal S6144x96 .fp8e5m2) (dsc : FVec Ideal S6144x1 .f32)
    (r : Fin 6144) (f : Fin 2560) : EReal :=
  (∑ x : Fin 96, dck (ix2 r x) * w2 (ix2 f x)) * dsc (ix2 r 0)

variable (V : (c : Dev nD) → (b : Ref sig .tc) → Buf (Elt Ideal) ((c : Thread nD τ).loc b))

theorem idx0 : ∀ t : Fin cfg0.N, win0_0.index t = ![t.val % 12, 0] ∧ win0_1.index t = ![t.val % 12, 0]
    ∧ win0_2.index t = ![t.val % 12, 0] ∧ win0_3.index t = ![t.val % 12, 0] ∧ win0_4.index t = ![0, t.val / 12]
    ∧ win0_5.index t = ![t.val / 12, 0] ∧ win0_6.index t = ![0, 0] ∧ win0_7.index t = ![t.val % 12, 0]
    ∧ win0_8.index t = ![t.val % 12, 0] ∧ win0_9.index t = ![t.val % 12, t.val / 12]
    ∧ win0_10.index t = ![0, t.val / 12] ∧ win0_12.index t = ![t.val / 12, 0] :=
  (by decide +kernel : ∀ t : Fin grid0.N, _)

/-! ## The blocks the body computes from -/

/-- The upper half of a point's weight block. -/
abbrev waB (c : Dev nD) (t : Fin cfg0.N) : Vec Ideal S3072x512 .bf16 :=
  View.ld (iblk0 V c 4 t) (Rect.unit (s := S6144x512) ![0, 0] ![3072, 512] inb_S6144x512_S3072x512_0_0)
/-- The lower half of a point's weight block. -/
abbrev wbB (c : Dev nD) (t : Fin cfg0.N) : Vec Ideal S3072x512 .bf16 :=
  View.ld (iblk0 V c 4 t) (Rect.unit (s := S6144x512) ![3072, 0] ![3072, 512] inb_S6144x512_S3072x512_3072_0)
/-- The constant term of a point's columns. -/
abbrev cB (c : Dev nD) (t : Fin cfg0.N) : FVec Ideal S1x512 .f32 := k0_pay3 (iblk0 V c 6 t) (waB V c t) (wbB V c t)
/-- The next chunk's keys at a point. -/
abbrev xbB (c : Dev nD) (t : Fin cfg0.N) : FVec Ideal S512x3072 .bf16 := k0_pay4 (iblk0 V c 2 t) (iblk0 V c 3 t)
/-- The chunk's own keys against the upper half of the weight. -/
abbrev zaB (c : Dev nD) (t : Fin cfg0.N) : FVec Ideal S512x512 .f32 := k0_pay5 (iblk0 V c 0 t) (iblk0 V c 1 t) (waB V c t)
/-- The pre-activation a point computes. -/
abbrev preB (c : Dev nD) (t : Fin cfg0.N) : FVec Ideal S512x512 .f32 := k0_pay6 (cB V c t) (xbB V c t) (zaB V c t) (wbB V c t)
/-- The gradient a point computes. -/
abbrev dpreB (c : Dev nD) (t : Fin cfg0.N) : FVec Ideal S512x512 .f32 :=
  k0_pay11 (cB V c t) (xbB V c t) (zaB V c t) (wbB V c t) (iblk0 V c 7 t) (iblk0 V c 8 t) (iblk0 V c 5 t)

/-- The pre-activation of the region's rows, from the arrays it finds. -/
abbrev preV (c : Dev nD) : Fin 6144 → Fin 2560 → EReal :=
  preAt (V c main_v2) (V c main_v8) (V c main_v12) (V c main_v15) (V c main_arg3) (V c main_v23)
/-- Its gradient. -/
def dpreV (c : Dev nD) (r : Fin 6144) (f : Fin 2560) : EReal :=
  siluGrad (dhidAt (V c main_arg4) (V c main_v19) (V c main_v22) r f) (preV V c r f)

/-- The gradient as an array. -/
def dpreArr (c : Dev nD) : FVec Ideal S6144x2560 .bf16 := fun i => dpreV V c (i 0) (i 1)
/-- The gradient's column sums as an array. -/
def gArr (c : Dev nD) : FVec Ideal S1x2560 .f32 := fun i => ∑ r : Fin 6144, dpreV V c r (i 1)
/-- One row's contribution to the second weight's gradient: the activation times the scaled output gradient. -/
def dw2Term (dck : FVec Ideal S6144x96 .fp8e5m2) (dsc : FVec Ideal S6144x1 .f32) (z : Fin 6144 → Fin 2560 → EReal)
    (r : Fin 6144) (f : Fin 2560) (e : Fin 96) : EReal :=
  z r f * Ideal.logistic (z r f) * (dck (ix2 r e) * dsc (ix2 r 0))
/-- The second weight's gradient: the activation against the scaled output gradient, summed over the rows. -/
def dw2At (dck : FVec Ideal S6144x96 .fp8e5m2) (dsc : FVec Ideal S6144x1 .f32) (z : Fin 6144 → Fin 2560 → EReal)
    (f : Fin 2560) (e : Fin 96) : EReal :=
  ∑ r : Fin 6144, dw2Term dck dsc z r f e
def dw2Arr (c : Dev nD) : FVec Ideal S2560x96 .f32 := fun i => dw2At (V c main_v19) (V c main_v22) (preV V c) (i 0) (i 1)

/-- The upper half of a point's weight block, at an index. -/
theorem waB_apply (c : Dev nD) (t : Fin cfg0.N) (q : Fin 3072) (j1 : Fin 512) (f : Fin 2560)
    (hf : f.val = t.val / 12 * 512 + j1.val) :
    waB V c t (ix2 q j1) = V c main_arg3 (ix2 (⟨q.val, by omega⟩ : Fin 6144) f) := by
  have ht : t.val < 60 := lt_of_lt_of_eq t.isLt N_0
  refine (View.ld_unit_apply_of (iblk0 V c 4 t) _ _ _ _ (ix2 (⟨q.val, by omega⟩ : Fin 6144) j1) ?_).trans ?_
  · intro a; match a with
      | ⟨0, _⟩ => exact (Nat.zero_add _).symm
      | ⟨1, _⟩ => exact (Nat.zero_add _).symm
  · blk_point [iblk0, idx0 t]
/-- The lower half of a point's weight block, at an index. -/
theorem wbB_apply (c : Dev nD) (t : Fin cfg0.N) (q : Fin 3072) (j1 : Fin 512) (f : Fin 2560)
    (hf : f.val = t.val / 12 * 512 + j1.val) :
    wbB V c t (ix2 q j1) = V c main_arg3 (ix2 (⟨3072 + q.val, by omega⟩ : Fin 6144) f) := by
  have ht : t.val < 60 := lt_of_lt_of_eq t.isLt N_0
  refine (View.ld_unit_apply_of (iblk0 V c 4 t) _ _ _ _ (ix2 (⟨3072 + q.val, by omega⟩ : Fin 6144) j1) ?_).trans ?_
  · intro a; match a with
      | ⟨0, _⟩ => rfl
      | ⟨1, _⟩ => exact (Nat.zero_add _).symm
  · blk_point [iblk0, idx0 t]

/-- A point's pre-activation is the rows' at the point's block. -/
theorem preB_apply (c : Dev nD) (hpe : FiniteRow (V c main_v23)) (t : Fin cfg0.N) (j0 j1 : Fin 512)
    (r : Fin 6144) (f : Fin 2560) (hr : r.val = t.val % 12 * 512 + j0.val) (hf : f.val = t.val / 12 * 512 + j1.val) :
    preB V c t (ix2 j0 j1) = preV V c r f := by
  have ht : t.val < 60 := lt_of_lt_of_eq t.isLt N_0
  have hpe' : FiniteRow (iblk0 V c 6 t) := fun j => hpe _
  unfold preV preAt preB zaB xbB cB
  rw [k0_pay6_apply, k0_pay5_apply, k0_pay3_apply _ _ _ hpe']
  simp only [k0_pay4_apply]
  simp only [waB_apply V c t _ j1 f hf, wbB_apply V c t _ j1 f hf]
  blk_point [iblk0, idx0 t]

/-- A point's gradient is the rows' at the point's block. -/
theorem dpreB_apply (c : Dev nD) (hpe : FiniteRow (V c main_v23)) (t : Fin cfg0.N) (j0 j1 : Fin 512)
    (r : Fin 6144) (f : Fin 2560) (hr : r.val = t.val % 12 * 512 + j0.val) (hf : f.val = t.val / 12 * 512 + j1.val) :
    dpreB V c t (ix2 j0 j1) = dpreV V c r f := by
  have ht : t.val < 60 := lt_of_lt_of_eq t.isLt N_0
  unfold dpreB
  rw [k0_pay11_apply]
  have h := preB_apply V c hpe t j0 j1 r f hr hf
  unfold preB at h
  rw [h]
  unfold dpreV siluGrad
  refine congrArg (fun x : EReal => x * Ideal.logistic (preV V c r f) * (1 + preV V c r f * (1 - Ideal.logistic (preV V c r f)))) ?_
  unfold dhidAt
  blk_point [iblk0, idx0 t]

/-! ## The arrays after the region -/

/-- What a point leaves in the gradient's buffer, in either case. -/
theorem outs_dpre (c : Dev nD) (t : Fin cfg0.N) : (outsAt0 (F := Ideal) V c t.val t.isLt).1
    = k0_pay12 (cB V c t) (xbB V c t) (zaB V c t) (wbB V c t) (iblk0 V c 7 t) (iblk0 V c 8 t) (iblk0 V c 5 t) := by
  by_cases h : t.val % 12 = 0
  · rw [outsAt0_A V c t h]; frame_out; rfl
  · rw [outsAt0_B V c t h]; frame_out; rfl

/-- The gradient's array. -/
theorem dpre_eq (c : Dev nD) (hpe : FiniteRow (V c main_v23)) :
    (dat0 (F := Ideal) V c).arrAt 9 cfg0.N = dpreArr V c := by
  refine (dat0 V c).arrAt_eq_of_covers 9 _ (by decide +kernel) fun t hf y => ?_
  blk_simp
  rw [after0_9, outs_dpre]
  have ht : t.val < 60 := lt_of_lt_of_eq t.isLt N_0
  change S512x512.Idx at y
  idx_vars y
  rw [k0_pay12_eq]
  unfold dpreArr
  exact dpreB_apply V c hpe t y0 y1 _ _ (by blk_simp [idx0 t]) (by blk_simp [idx0 t])

/-- The column sums' array. -/
theorem g_eq (c : Dev nD) (hpe : FiniteRow (V c main_v23)) :
    (dat0 (F := Ideal) V c).arrAt 10 cfg0.N = gArr V c := by
  refine (dat0 V c).arrAt_eq_of_covers 10 _ (by decide +kernel) fun t hf y => ?_
  blk_simp
  change S1x512.Idx at y
  idx_vars y
  rw [after0_10, Pipeline.eq_sum_fin_of_reset_step_apply_of_flush (fun n h => (outsAt0 V c n h).2.1) 12 (fun _ => (0 : EReal))
    (fun p j => ∑ x : Fin 512, dpreB V c p (ix2 x (j 1)))
    (fun t h j => by idx_vars j; rw [outsAt0_A V c t h]; frame_out; rw [k0_pay16_apply, k0_pay13_apply]; rfl)
    (fun t h j => by idx_vars j; rw [outsAt0_B V c t h]; frame_out; rw [k0_pay16_apply]; rfl)
    t ((flush0_10 t).mp hf) _, zero_add]
  unfold gArr
  refine Fin.sum_mul_add_congr fun s k hl => ?_
  have ht : t.val < 60 := lt_of_lt_of_eq t.isLt N_0
  have hs : s.val < 12 := s.isLt
  exact dpreB_apply V c hpe _ k y1 _ _ (by dsimp only; omega) (by blk_simp [idx0 t]; dsimp only; omega)

/-- One row's contribution to the second weight's gradient, at a point. -/
theorem dw2_term (c : Dev nD) (hpe : FiniteRow (V c main_v23)) (t : Fin cfg0.N) (k y0 : Fin 512) (y1 : Fin 96)
    (r : Fin 6144) (f : Fin 2560) (e : Fin 96) (hr : r.val = t.val % 12 * 512 + k.val) (hf : f.val = t.val / 12 * 512 + y0.val)
    (he : e.val = y1.val) :
    k0_pay8 (cB V c t) (xbB V c t) (zaB V c t) (wbB V c t) (ix2 k y0)
        * (k0_pay9 (F := Ideal) (iblk0 V c 7 t) (ix2 k y1) * k0_pay10 (F := Ideal) (iblk0 V c 8 t) (ix2 k 0))
      = dw2Term (V c main_v19) (V c main_v22) (preV V c) r f e := by
  have ht : t.val < 60 := lt_of_lt_of_eq t.isLt N_0
  rw [k0_pay8_apply, k0_pay9_apply, k0_pay10_apply]
  have h := preB_apply V c hpe t k y0 r f hr hf
  unfold preB at h
  rw [h]
  unfold dw2Term
  refine congrArg (fun x : EReal => preV V c r f * Ideal.logistic (preV V c r f) * x) ?_
  blk_point [iblk0, idx0 t]

/-- The second weight's gradient's array. -/
theorem dw2_eq (c : Dev nD) (hpe : FiniteRow (V c main_v23)) :
    (dat0 (F := Ideal) V c).arrAt 12 cfg0.N = dw2Arr V c := by
  refine (dat0 V c).arrAt_eq_of_covers 12 _ (by decide +kernel) fun t hf y => ?_
  blk_simp
  change S512x96.Idx at y
  idx_vars y
  rw [after0_12, Pipeline.eq_sum_fin_of_reset_step_apply_of_flush (fun n h => (outsAt0 V c n h).2.2.2) 12 (fun _ => (0 : EReal))
    (fun p j => ∑ x : Fin 512, (k0_pay8 (cB V c p) (xbB V c p) (zaB V c p) (wbB V c p)) (ix2 x (j 0)) * (k0_pay9 (F := Ideal) (iblk0 V c 7 p) (ix2 x (j 1)) * k0_pay10 (F := Ideal) (iblk0 V c 8 p) (ix2 x 0)))
    (fun t h j => by idx_vars j; rw [outsAt0_A V c t h]; frame_out; rw [k0_pay2_apply, k0_pay15_apply]; rfl)
    (fun t h j => by idx_vars j; rw [outsAt0_B V c t h]; frame_out; rw [k0_pay2_apply]; rfl)
    t ((flush0_12 t).mp hf) _, zero_add]
  unfold dw2Arr dw2At
  refine Fin.sum_mul_add_congr fun s k hl => ?_
  have ht : t.val < 60 := lt_of_lt_of_eq t.isLt N_0
  have hs : s.val < 12 := s.isLt
  exact dw2_term V c hpe _ k y0 y1 _ _ _ (by dsimp only; omega) (by blk_simp [idx0 t]; dsimp only; omega) (by blk_simp [idx0 t])

end Cert.KernelIdeal.Gen

end
-- ==== Proof.Region1.lean ====
/- The second region's arrays: the two halves of the first weight's gradient, as sums over the 6144 rows. -/
module

public import proofs.«01_k».proof.Proof.Gen.KernelIdeal.Frame
public import proofs.«01_k».proof.Proof.KPay
public import Idealize.ShloMosaic.Lib.Pipeline.ValueKit
public import Idealize.ShloMosaic.Lib.Pipeline.Covers

@[expose] public section

set_option maxRecDepth 16384

noncomputable section

namespace Cert.KernelIdeal.Gen

open Idealize.ShloMosaic Idealize.ShloMosaic.TcCoe Idealize.ShloMosaic.Pointwise
open Idealize.ShloMosaic.Pipeline (Dat Cfg Window)

variable (V : (c : Dev nD) → (b : Ref sig .tc) → Buf (Elt Ideal) ((c : Thread nD τ).loc b))

theorem idx1 : ∀ t : Fin cfg1.N, win1_0.index t = ![0, t.val % 6] ∧ win1_1.index t = ![0, t.val % 6]
    ∧ win1_2.index t = ![0, t.val % 6] ∧ win1_3.index t = ![0, t.val % 6] ∧ win1_4.index t = ![0, t.val / 6]
    ∧ win1_5.index t = ![t.val % 6, 0] ∧ win1_6.index t = ![t.val % 6, 0] ∧ win1_7.index t = ![0, t.val / 6]
    ∧ win1_8.index t = ![t.val % 6, t.val / 6] ∧ win1_9.index t = ![t.val % 6, t.val / 6] :=
  (by decide +kernel : ∀ t : Fin grid1.N, _)

/-- Half of the first weight's gradient: the rows' keys (codes times scales) against the pre-activation's gradient
    summed over the rows, and the position embedding against the gradient's column sums. -/
def dwHalf (xc : FVec Ideal S6144x3072 .fp8e4m3) (xs : FVec Ideal S6144x3072 .bf16) (d : FVec Ideal S6144x2560 .bf16)
    (p : FVec Ideal S3072x1 .f32) (g : FVec Ideal S1x2560 .f32) : FVec Ideal S3072x2560 .f32 :=
  fun i => ∑ x : Fin 6144, xc (ix2 x (i 0)) * xs (ix2 x (i 0)) * d (ix2 x (i 1)) + p (ix2 (i 0) 0) * g (ix2 0 (i 1))

theorem dwa_point (c : Dev nD) (t : Fin cfg1.N) (y : S512x512.Idx) :
    k1_pay2 (F := Ideal) (iblk1 V c 4 t) (iblk1 V c 0 t) (iblk1 V c 1 t) (iblk1 V c 5 t) (iblk1 V c 7 t) y
      = dwHalf (V c main_v2) (V c main_v8) (V c main_v25_0) (V c main_v26) (V c main_v25_1) (((cfg1.win 8).blk t).view.emb y) := by
  have ht : t.val < 30 := lt_of_lt_of_eq t.isLt N_1
  idx_vars y
  rw [k1_pay2_apply]
  unfold dwHalf
  blk_point [iblk1, idx1 t]

theorem dwb_point (c : Dev nD) (t : Fin cfg1.N) (y : S512x512.Idx) :
    k1_pay3 (F := Ideal) (iblk1 V c 4 t) (iblk1 V c 2 t) (iblk1 V c 3 t) (iblk1 V c 6 t) (iblk1 V c 7 t) y
      = dwHalf (V c main_v12) (V c main_v15) (V c main_v25_0) (V c main_v27) (V c main_v25_1) (((cfg1.win 9).blk t).view.emb y) := by
  have ht : t.val < 30 := lt_of_lt_of_eq t.isLt N_1
  idx_vars y
  rw [k1_pay3_apply]
  unfold dwHalf
  blk_point [iblk1, idx1 t]

/-- The first output array of the region. -/
theorem dwa_eq (c : Dev nD) : (dat1 (F := Ideal) V c).arrAt 8 cfg1.N
    = dwHalf (V c main_v2) (V c main_v8) (V c main_v25_0) (V c main_v26) (V c main_v25_1) := by
  refine (dat1 V c).arrAt_eq_of_covers 8 _ (by decide +kernel) fun t hf y => ?_
  blk_simp
  rw [after1_8]
  frame_out
  exact dwa_point V c t y

/-- The second output array of the region. -/
theorem dwb_eq (c : Dev nD) : (dat1 (F := Ideal) V c).arrAt 9 cfg1.N
    = dwHalf (V c main_v12) (V c main_v15) (V c main_v25_0) (V c main_v27) (V c main_v25_1) := by
  refine (dat1 V c).arrAt_eq_of_covers 9 _ (by decide +kernel) fun t hf y => ?_
  blk_simp
  rw [after1_9]
  frame_out
  exact dwb_point V c t y

end Cert.KernelIdeal.Gen

end
-- ==== Proof.Region2.lean ====
/- The third region's first array: the keys' gradient in row layout, two products with the halves of the first weight. -/
module

public import proofs.«01_k».proof.Proof.Gen.KernelIdeal.Frame
public import proofs.«01_k».proof.Proof.KPay
public import Idealize.ShloMosaic.Lib.Pipeline.ValueKit
public import Idealize.ShloMosaic.Lib.Pipeline.Covers

@[expose] public section

set_option maxRecDepth 16384

noncomputable section

namespace Cert.KernelIdeal.Gen

open Idealize.ShloMosaic Idealize.ShloMosaic.TcCoe Idealize.ShloMosaic.Pointwise
open Idealize.ShloMosaic.Pipeline (Dat Cfg Window)

variable (V : (c : Dev nD) → (b : Ref sig .tc) → Buf (Elt Ideal) ((c : Thread nD τ).loc b))

theorem idx2 : ∀ t : Fin cfg2.N, win2_0.index t = ![t.val / 6, 0] ∧ win2_1.index t = ![t.val / 6, 0]
    ∧ win2_2.index t = ![t.val % 6, 0] ∧ win2_3.index t = ![6 + t.val % 6, 0]
    ∧ win2_5.index t = ![t.val / 6, t.val % 6] :=
  (by decide +kernel : ∀ t : Fin grid2.N, _)

/-- The keys' gradient by rows: a row's own gradient against the first half of the weight, and the gradient of the
    window one chunk earlier against the second half. -/
def dkRows (d dp : FVec Ideal S6144x2560 .bf16) (w : FVec Ideal S6144x2560 .bf16) : FVec Ideal S6144x3072 .bf16 :=
  fun i => ∑ x : Fin 2560, d (ix2 (i 0) x) * w (ix2 ⟨(i 1).val, by have := (i 1).isLt; exact this.trans (by decide)⟩ x)
    + ∑ x : Fin 2560, dp (ix2 (i 0) x) * w (ix2 ⟨3072 + (i 1).val, by have := (i 1).isLt; exact (Nat.add_lt_add_left this _).trans_le (by decide)⟩ x)

theorem dk_point (c : Dev nD) (t : Fin cfg2.N) (y : S512x512.Idx) :
    k2_pay1 (F := Ideal) (iblk2 V c 2 t) (iblk2 V c 3 t) (iblk2 V c 0 t) (iblk2 V c 1 t) y
      = dkRows (V c main_v25_0) (V c main_v32) (V c main_arg3) (((cfg2.win 5).blk t).view.emb y) := by
  have ht : t.val < 72 := lt_of_lt_of_eq t.isLt N_2
  idx_vars y
  rw [k2_pay1_apply]
  unfold dkRows
  blk_point [iblk2, idx2 t]

theorem dk_eq (c : Dev nD) : (dat2 (F := Ideal) V c).arrAt 5 cfg2.N
    = dkRows (V c main_v25_0) (V c main_v32) (V c main_arg3) := by
  refine (dat2 V c).arrAt_eq_of_covers 5 _ (by decide +kernel) fun t hf y => ?_
  blk_simp
  rw [after2_5]
  frame_out
  exact dk_point V c t y

end Cert.KernelIdeal.Gen

end
-- ==== Proof.KernelValue.lean ====
/- The kernel's first three results as functions of its arguments: what the regions and the host leave in their buffers
   is the backward pass of `Spec`. -/
module

public import proofs.«01_k».proof.Proof.HostReads
public import proofs.«01_k».proof.Proof.Region0
public import proofs.«01_k».proof.Proof.Region1
public import proofs.«01_k».proof.Proof.Region2

@[expose] public section

set_option maxRecDepth 16384

noncomputable section

namespace Cert.KernelIdeal.Gen

open Idealize.ShloMosaic Idealize.ShloMosaic.TcCoe Idealize.ShloMosaic.Pointwise Cert.Spec

variable (m : (ℓ : Loc nD τ sig) → Buf (Elt Ideal) ℓ) (ρ : Dev nD → PrngReg) (c : Dev nD)

/-! ## The backward pass at the arguments -/

/-- The keys of a window. -/
abbrev keyM := keyAt (m (c.tc.loc main_arg0)) (m (c.tc.loc main_arg1))
/-- The position embedding of a lane. -/
abbrev peM := peAt (m (c.tc.loc main_arg2))
/-- The pre-activation. -/
abbrev preM := preAct (m (c.tc.loc main_arg0)) (m (c.tc.loc main_arg1)) (m (c.tc.loc main_arg2)) (m (c.tc.loc main_arg3))
/-- Its gradient. -/
abbrev dPreM := dPre (m (c.tc.loc main_arg0)) (m (c.tc.loc main_arg1)) (m (c.tc.loc main_arg2)) (m (c.tc.loc main_arg3))
  (m (c.tc.loc main_arg4)) (m (c.tc.loc main_arg5)) (m (c.tc.loc main_arg6))

theorem zero_mul_of {a b : EReal} (h : a = 0) : a * b = 0 := by rw [h, zero_mul]
theorem mul_zero_of {a b : EReal} (h : b = 0) : a * b = 0 := by rw [h, mul_zero]

/-! ## What the first region finds -/

theorem in_w1 : V3 m ρ c main_arg3 = m (c.tc.loc main_arg3) := W3_args m ρ c main_arg3 (by decide)
theorem in_w2 : V3 m ρ c main_arg4 = m (c.tc.loc main_arg4) := W3_args m ρ c main_arg4 (by decide)
/-- A buffer the first stretch writes is still so when the region starts. -/
theorem in_of (r : Ref sig .tc) (h1 : r ∉ hostOps0_1_W) (h2 : r ∉ hostOps0_2_W) :
    V3 m ρ c r = StableHlo.after hostOps0 (W0 m ρ c) (Proc.devRef .tc r) :=
  (W3_of m ρ c r h2).trans (W2_of m ρ c r h1)
theorem in_codes (b : Fin 6) (i : Fin 127) (h : Fin 8) (q : Fin 3072) (r : Fin 6144) (hr : r.val = i.val * 48 + b.val * 8 + h.val) :
    V3 m ρ c main_v2 (ix2 r q) = m (c.tc.loc main_arg0) (ix3 b ⟨i.val * 32 + q.val / 96, by omega⟩ ⟨h.val * 96 + q.val % 96, by omega⟩) :=
  (congrFun (in_of m ρ c main_v2 (by decide) (by decide)) _).trans (codes_at (W0 m ρ c) b i.castSucc h q r hr)
theorem in_scales (b : Fin 6) (i : Fin 127) (h : Fin 8) (q : Fin 3072) (r : Fin 6144) (hr : r.val = i.val * 48 + b.val * 8 + h.val) :
    V3 m ρ c main_v8 (ix2 r q) = m (c.tc.loc main_arg1) (ix3 b ⟨i.val * 32 + q.val / 96, by omega⟩ h) :=
  (congrFun (in_of m ρ c main_v8 (by decide) (by decide)) _).trans (scales_at (W0 m ρ c) b i.castSucc h q r hr)
theorem in_codesNext (b : Fin 6) (i : Fin 127) (h : Fin 8) (q : Fin 3072) (r : Fin 6144) (hr : r.val = i.val * 48 + b.val * 8 + h.val) :
    V3 m ρ c main_v12 (ix2 r q)
      = m (c.tc.loc main_arg0) (ix3 b ⟨i.val * 32 + (3072 + q.val) / 96, by omega⟩ ⟨h.val * 96 + (3072 + q.val) % 96, by omega⟩) :=
  (congrFun (in_of m ρ c main_v12 (by decide) (by decide)) _).trans (codesNext_at (W0 m ρ c) b i h q r hr)
theorem in_scalesNext (b : Fin 6) (i : Fin 127) (h : Fin 8) (q : Fin 3072) (r : Fin 6144) (hr : r.val = i.val * 48 + b.val * 8 + h.val) :
    V3 m ρ c main_v15 (ix2 r q) = m (c.tc.loc main_arg1) (ix3 b ⟨i.val * 32 + (3072 + q.val) / 96, by omega⟩ h) :=
  (congrFun (in_of m ρ c main_v15 (by decide) (by decide)) _).trans (scalesNext_at (W0 m ρ c) b i h q r hr)
theorem in_dck (b : Fin 6) (i : Fin 127) (h : Fin 8) (e : Fin 96) (r : Fin 6144) (hr : r.val = i.val * 48 + b.val * 8 + h.val) :
    V3 m ρ c main_v19 (ix2 r e) = m (c.tc.loc main_arg5) (ix4 b i h e) :=
  (congrFun (in_of m ρ c main_v19 (by decide) (by decide)) _).trans (dck_at (W0 m ρ c) b i h e r hr)
theorem in_dck_last (r : Fin 6144) (hr : 6096 ≤ r.val) (e : Fin 96) : V3 m ρ c main_v19 (ix2 r e) = (0 : EReal) :=
  (congrFun (in_of m ρ c main_v19 (by decide) (by decide)) _).trans (dck_last (W0 m ρ c) r hr e)
theorem in_dsc (b : Fin 6) (i : Fin 127) (h : Fin 8) (r : Fin 6144) (hr : r.val = i.val * 48 + b.val * 8 + h.val) :
    V3 m ρ c main_v22 (ix2 r 0) = m (c.tc.loc main_arg6) (ix3 b i h) :=
  (dsc_at (W1 m ρ c) b i h r hr).trans (congrFun (W1_args m ρ c main_arg6 (by decide)) _)
theorem in_peRow (x : Fin 6144) : V3 m ρ c main_v23 (ix2 0 x) = peM m c x :=
  (peRow_at (W2 m ρ c) x).trans (congrArg (fun a => peAt a x) (W2_args m ρ c main_arg2 (by decide)))
theorem in_peCol (x : Fin 6144) : V3 m ρ c main_v24 (ix2 x 0) = peM m c x :=
  (peCol_at (W2 m ρ c) x).trans (congrArg (fun a => peAt a x) (W2_args m ρ c main_arg2 (by decide)))

/-! ## The region's rows are the backward pass's windows -/

theorem preV_row (b : Fin 6) (i : Fin 127) (h : Fin 8) (r : Fin 6144) (hr : r.val = i.val * 48 + b.val * 8 + h.val) (f : Fin 2560) :
    preV (V3 m ρ) c r f = preM m c b i h f := by
  unfold preV preAt preM preAct
  rw [sum_halves fun x => keyM m c b i h x * m (c.tc.loc main_arg3) (ix2 x f), sum_halves fun x => peM m c x * m (c.tc.loc main_arg3) (ix2 x f)]
  refine congrArg₂ (· + ·) (congrArg₂ (· + ·) (Finset.sum_congr rfl fun q _ => ?_) (Finset.sum_congr rfl fun q _ => ?_))
    (congrArg₂ (· + ·) (Finset.sum_congr rfl fun q _ => ?_) (Finset.sum_congr rfl fun q _ => ?_))
  · exact congrArg₂ (· * ·) (congrArg₂ (· * ·) (in_codes m ρ c b i h q r hr) (in_scales m ρ c b i h q r hr)) (congrFun (in_w1 m ρ c) _)
  · exact congrArg₂ (· * ·) (congrArg₂ (· * ·) (in_codesNext m ρ c b i h q r hr) (in_scalesNext m ρ c b i h q r hr)) (congrFun (in_w1 m ρ c) _)
  · exact congrArg₂ (· * ·) (in_peRow m ρ c _) (congrFun (in_w1 m ρ c) _)
  · exact congrArg₂ (· * ·) (in_peRow m ρ c _) (congrFun (in_w1 m ρ c) _)

theorem dpreV_row (b : Fin 6) (i : Fin 127) (h : Fin 8) (r : Fin 6144) (hr : r.val = i.val * 48 + b.val * 8 + h.val) (f : Fin 2560) :
    dpreV (V3 m ρ) c r f = dPreM m c b i h f := by
  unfold dpreV dPreM dPre
  refine congrArg₂ siluGrad ?_ (preV_row m ρ c b i h r hr f)
  unfold dhidAt dHid
  exact congrArg₂ (· * ·) (Finset.sum_congr rfl fun e _ => congrArg₂ (· * ·) (in_dck m ρ c b i h e r hr) (congrFun (in_w2 m ρ c) _))
    (in_dsc m ρ c b i h r hr)

/-- The last chunk begins no window: its rows' gradient is zero. -/
theorem dpreV_last (r : Fin 6144) (hr : 6096 ≤ r.val) (f : Fin 2560) : dpreV (V3 m ρ) c r f = 0 := by
  have h0 : dhidAt (V3 m ρ c main_arg4) (V3 m ρ c main_v19) (V3 m ρ c main_v22) r f = 0 := by
    unfold dhidAt
    exact zero_mul_of (Finset.sum_eq_zero fun e _ => zero_mul_of (in_dck_last m ρ c r hr e))
  unfold dpreV
  rw [h0, siluGrad_zero]

theorem row_val (b : Fin 6) (i : Fin 127) (h : Fin 8) : (row b i.castSucc h).val = i.val * 48 + b.val * 8 + h.val := rfl

theorem g_row (f : Fin 2560) : ∑ r : Fin 6144, dpreV (V3 m ρ) c r f = ∑ b : Fin 6, ∑ i : Fin 127, ∑ h : Fin 8, dPreM m c b i h f := by
  rw [sum_rows _ fun r hr => dpreV_last m ρ c r hr f]
  exact Finset.sum_congr rfl fun b _ => Finset.sum_congr rfl fun i _ => Finset.sum_congr rfl fun h _ =>
    dpreV_row m ρ c b i h _ (row_val b i h) f

/-! ## What the first region leaves -/

variable (hpe : FiniteRow (V3 m ρ c main_v23))
include hpe

theorem out_dpre : W4 m ρ c (Proc.devRef .tc main_v25_0) = dpreArr (V3 m ρ) c :=
  (W4_arr m ρ c 9).trans (dpre_eq (V3 m ρ) c hpe)
theorem out_g : W4 m ρ c (Proc.devRef .tc main_v25_1) = gArr (V3 m ρ) c :=
  (W4_arr m ρ c 10).trans (g_eq (V3 m ρ) c hpe)
theorem out_dw2 : W4 m ρ c (Proc.devRef .tc main_v25_3) = dw2Arr (V3 m ρ) c :=
  (W4_arr m ρ c 12).trans (dw2_eq (V3 m ρ) c hpe)

/-- The second weight's gradient. -/
theorem kernel_dw2 (f : Fin 2560) (e : Fin 96) : W9 m ρ c (Proc.devRef .tc main_v25_3) (ix2 f e)
    = dW2 (m (c.tc.loc main_arg0)) (m (c.tc.loc main_arg1)) (m (c.tc.loc main_arg2)) (m (c.tc.loc main_arg3))
        (m (c.tc.loc main_arg5)) (m (c.tc.loc main_arg6)) f e := by
  have e1 : W9 m ρ c (Proc.devRef .tc main_v25_3) = dw2Arr (V3 m ρ) c :=
    ((W9_of m ρ c main_v25_3 (by decide)).trans ((W8_of m ρ c main_v25_3 (by decide)).trans ((W7_of m ρ c main_v25_3 (by decide)).trans
      ((W6_of m ρ c main_v25_3 (by decide)).trans (W5_of m ρ c main_v25_3 (by decide)))))).trans (out_dw2 m ρ c hpe)
  rw [e1]
  show ∑ r : Fin 6144, dw2Term (V3 m ρ c main_v19) (V3 m ρ c main_v22) (preV (V3 m ρ) c) r f e = _
  rw [sum_rows]
  · unfold dW2
    refine Finset.sum_congr rfl fun b _ => Finset.sum_congr rfl fun i _ => Finset.sum_congr rfl fun h _ => ?_
    unfold dw2Term
    rw [preV_row m ρ c b i h _ (row_val b i h) f]
    exact congrArg _ (congrArg₂ (· * ·) (in_dck m ρ c b i h e _ (row_val b i h)) (in_dsc m ρ c b i h _ (row_val b i h)))
  · intro r hr
    unfold dw2Term
    exact mul_zero_of (zero_mul_of (in_dck_last m ρ c r hr e))

/-! ## The first weight's gradient -/

omit hpe in
theorem keep5 (r : Ref sig .tc) (h4 : ∀ w : Fin cfg0.W, Pipeline.arrRef spec0 w = r → (cfg0.win w).isOut = false) (h5 : r ∉ hostOps1_W) :
    V5 m ρ c r = V3 m ρ c r := (W5_of m ρ c r h5).trans (W4_of m ρ c r h4)

theorem mid_dpre : V5 m ρ c main_v25_0 = dpreArr (V3 m ρ) c := (W5_of m ρ c main_v25_0 (by decide)).trans (out_dpre m ρ c hpe)
theorem mid_g : V5 m ρ c main_v25_1 = gArr (V3 m ρ) c := (W5_of m ρ c main_v25_1 (by decide)).trans (out_g m ρ c hpe)

theorem kernel_dw1_upper (q : Fin 3072) (f : Fin 2560) : W9 m ρ c (Proc.devRef .tc main_v29) (ix2 ⟨q.val, by omega⟩ f)
    = dW1 (m (c.tc.loc main_arg0)) (m (c.tc.loc main_arg1)) (m (c.tc.loc main_arg2)) (m (c.tc.loc main_arg3)) (m (c.tc.loc main_arg4))
        (m (c.tc.loc main_arg5)) (m (c.tc.loc main_arg6)) ⟨q.val, by omega⟩ f := by
  have e1 : W9 m ρ c (Proc.devRef .tc main_v29) = W7 m ρ c (Proc.devRef .tc main_v29) :=
    (W9_of m ρ c main_v29 (by decide)).trans (W8_of m ρ c main_v29 (by decide))
  have e2 : W6 m ρ c (Proc.devRef .tc main_v28_0) = dwHalf (V3 m ρ c main_v2) (V3 m ρ c main_v8) (dpreArr (V3 m ρ) c) (V5 m ρ c main_v26) (gArr (V3 m ρ) c) := by
    refine (W6_arr m ρ c 8).trans ((dwa_eq (V5 m ρ) c).trans ?_)
    rw [keep5 m ρ c main_v2 (by decide) (by decide), keep5 m ρ c main_v8 (by decide) (by decide), mid_dpre m ρ c hpe, mid_g m ρ c hpe]
  have e3 : V5 m ρ c main_v26 (ix2 q 0) = peM m c ⟨q.val, by omega⟩ :=
    (peColA_at (W4 m ρ c) q).trans ((congrFun (W4_of m ρ c main_v24 (by decide)) _).trans (in_peCol m ρ c _))
  rw [e1]
  refine (dw1_upper (W6 m ρ c) q f).trans ((congrFun e2 _).trans ?_)
  unfold dW1
  refine congrArg₂ (· + ·) ?_ (congrArg₂ (· * ·) e3 (g_row m ρ c f))
  refine (sum_rows _ fun r hr => ?_).trans ?_
  · exact mul_zero_of (dpreV_last m ρ c r hr f)
  · refine Finset.sum_congr rfl fun b _ => Finset.sum_congr rfl fun i _ => Finset.sum_congr rfl fun h _ => ?_
    exact congrArg₂ (· * ·) (congrArg₂ (· * ·) (in_codes m ρ c b i h q _ (row_val b i h)) (in_scales m ρ c b i h q _ (row_val b i h)))
      (dpreV_row m ρ c b i h _ (row_val b i h) f)

theorem kernel_dw1_lower (q : Fin 3072) (f : Fin 2560) : W9 m ρ c (Proc.devRef .tc main_v29) (ix2 ⟨3072 + q.val, by omega⟩ f)
    = dW1 (m (c.tc.loc main_arg0)) (m (c.tc.loc main_arg1)) (m (c.tc.loc main_arg2)) (m (c.tc.loc main_arg3)) (m (c.tc.loc main_arg4))
        (m (c.tc.loc main_arg5)) (m (c.tc.loc main_arg6)) ⟨3072 + q.val, by omega⟩ f := by
  have e1 : W9 m ρ c (Proc.devRef .tc main_v29) = W7 m ρ c (Proc.devRef .tc main_v29) :=
    (W9_of m ρ c main_v29 (by decide)).trans (W8_of m ρ c main_v29 (by decide))
  have e2 : W6 m ρ c (Proc.devRef .tc main_v28_1) = dwHalf (V3 m ρ c main_v12) (V3 m ρ c main_v15) (dpreArr (V3 m ρ) c) (V5 m ρ c main_v27) (gArr (V3 m ρ) c) := by
    refine (W6_arr m ρ c 9).trans ((dwb_eq (V5 m ρ) c).trans ?_)
    rw [keep5 m ρ c main_v12 (by decide) (by decide), keep5 m ρ c main_v15 (by decide) (by decide), mid_dpre m ρ c hpe, mid_g m ρ c hpe]
  have e3 : V5 m ρ c main_v27 (ix2 q 0) = peM m c ⟨3072 + q.val, by omega⟩ :=
    (peColB_at (W4 m ρ c) q).trans ((congrFun (W4_of m ρ c main_v24 (by decide)) _).trans (in_peCol m ρ c _))
  rw [e1]
  refine (dw1_lower (W6 m ρ c) q f).trans ((congrFun e2 _).trans ?_)
  unfold dW1
  refine congrArg₂ (· + ·) ?_ (congrArg₂ (· * ·) e3 (g_row m ρ c f))
  refine (sum_rows _ fun r hr => ?_).trans ?_
  · exact mul_zero_of (dpreV_last m ρ c r hr f)
  · refine Finset.sum_congr rfl fun b _ => Finset.sum_congr rfl fun i _ => Finset.sum_congr rfl fun h _ => ?_
    exact congrArg₂ (· * ·) (congrArg₂ (· * ·) (in_codesNext m ρ c b i h q _ (row_val b i h)) (in_scalesNext m ρ c b i h q _ (row_val b i h)))
      (dpreV_row m ρ c b i h _ (row_val b i h) f)

/-- The first weight's gradient. -/
theorem kernel_dw1 (x : Fin 6144) (f : Fin 2560) : W9 m ρ c (Proc.devRef .tc main_v29) (ix2 x f)
    = dW1 (m (c.tc.loc main_arg0)) (m (c.tc.loc main_arg1)) (m (c.tc.loc main_arg2)) (m (c.tc.loc main_arg3)) (m (c.tc.loc main_arg4))
        (m (c.tc.loc main_arg5)) (m (c.tc.loc main_arg6)) x f := by
  by_cases hx : x.val < 3072
  · exact kernel_dw1_upper m ρ c hpe ⟨x.val, hx⟩ f
  · have hq : x = (⟨3072 + (⟨x.val - 3072, by omega⟩ : Fin 3072).val, by dsimp only; omega⟩ : Fin 6144) := Fin.ext (by dsimp only; omega)
    rw [hq]
    exact kernel_dw1_lower m ρ c hpe ⟨x.val - 3072, by omega⟩ f

/-! ## The keys' gradient -/

theorem late_dpre : W6 m ρ c (Proc.devRef .tc main_v25_0) = dpreArr (V3 m ρ) c :=
  (W6_of m ρ c main_v25_0 (by decide)).trans (mid_dpre m ρ c hpe)

omit hpe in
theorem dkRows_apply (d dp w : S6144x2560.Idx → EReal) (r : Fin 6144) (q : Fin 3072) : dkRows d dp w (ix2 r q)
    = ∑ x : Fin 2560, d (ix2 r x) * w (ix2 ⟨q.val, by omega⟩ x) + ∑ x : Fin 2560, dp (ix2 r x) * w (ix2 ⟨3072 + q.val, by omega⟩ x) := rfl

/-- The keys' gradient. -/
theorem kernel_dk (b : Fin 6) (k : Fin 4096) (l : Fin 768) : W9 m ρ c (Proc.devRef .tc main_v36) (ix3 b k l)
    = dK (m (c.tc.loc main_arg0)) (m (c.tc.loc main_arg1)) (m (c.tc.loc main_arg2)) (m (c.tc.loc main_arg3)) (m (c.tc.loc main_arg4))
        (m (c.tc.loc main_arg5)) (m (c.tc.loc main_arg6)) b ⟨k.val / 32, by omega⟩ ⟨k.val % 32, by omega⟩ ⟨l.val / 96, by omega⟩ ⟨l.val % 96, by omega⟩ := by
  have e2 : W8 m ρ c (Proc.devRef .tc main_v33_0) = dkRows (dpreArr (V3 m ρ) c) (V7 m ρ c main_v32) (m (c.tc.loc main_arg3)) := by
    refine (W8_arr m ρ c 5).trans ((dk_eq (V7 m ρ) c).trans ?_)
    have a1 : V7 m ρ c main_v25_0 = dpreArr (V3 m ρ) c := (W7_of m ρ c main_v25_0 (by decide)).trans (late_dpre m ρ c hpe)
    have a2 : V7 m ρ c main_arg3 = m (c.tc.loc main_arg3) := W7_args m ρ c main_arg3 (by decide)
    rw [a1, a2]
  refine (dkOut_at (W8 m ρ c) b k l ⟨k.val / 32 * 48 + b.val * 8 + l.val / 96, by omega⟩ ⟨k.val % 32 * 96 + l.val % 96, by omega⟩ rfl rfl).trans
    ((congrFun e2 _).trans ((dkRows_apply _ _ _ _ _).trans ?_))
  unfold dK
  refine congrArg₂ (· + ·) ?_ ?_
  · by_cases hc : k.val / 32 < 127
    · rw [dif_pos hc]
      refine Finset.sum_congr rfl fun f _ => congrArg₂ (· * ·) ?_ rfl
      exact dpreV_row m ρ c b ⟨k.val / 32, hc⟩ ⟨l.val / 96, by omega⟩ _ rfl f
    · rw [dif_neg hc]
      exact Finset.sum_eq_zero fun f _ => zero_mul_of (dpreV_last m ρ c ⟨k.val / 32 * 48 + b.val * 8 + l.val / 96, by omega⟩ (by dsimp only; omega) f)
  · by_cases hc : 1 ≤ k.val / 32
    · rw [dif_pos hc]
      refine Finset.sum_congr rfl fun f _ => congrArg₂ (· * ·) ?_ rfl
      refine (dprev_at (W6 m ρ c) _ ⟨(k.val / 32 - 1) * 48 + b.val * 8 + l.val / 96, by omega⟩ (by dsimp only; omega) f).trans
        ((congrFun (late_dpre m ρ c hpe) _).trans ?_)
      exact dpreV_row m ρ c b ⟨k.val / 32 - 1, by omega⟩ ⟨l.val / 96, by omega⟩ _ rfl f
    · rw [dif_neg hc]
      exact Finset.sum_eq_zero fun f _ => zero_mul_of (dprev_first (W6 m ρ c) _ (by dsimp only; omega) f)

end Cert.KernelIdeal.Gen
-- ==== Proof.Precondition.lean ====
/- What the precondition says: a position embedding without infinities, of which every difference with itself is zero. -/
module

public import proofs.«01_k».proof.Defs
public import proofs.«01_k».proof.Proof.KernelValue

@[expose] public section

set_option maxRecDepth 16384

noncomputable section

namespace Cert.Proof

open Idealize.ShloMosaic Idealize.ShloMosaic.TcCoe Idealize.ShloMosaic.Pointwise

theorem pre_facts : Cert.Pre_finite.Facts := ⟨by decide⟩
theorem on_facts : Cert.On_three.Facts := ⟨by decide, by decide, by decide, by decide⟩

instance : Cert.Pre_finite.Facts := pre_facts
instance : Cert.On_three.Facts := on_facts

/-- A number whose absolute value is below infinity cancels itself. -/
theorem sub_self_of_abs_lt (x : EReal) (h : max x (-x) < ⊤) : x - x = 0 := by
  induction x with
  | bot => exact absurd h (by simp)
  | top => exact absurd h (by simp)
  | coe r => rw [← EReal.coe_sub, sub_self]; rfl

theorem abs_lt_of_pre (a0 : FVec Ideal Pre_finite.S6x4096x768 .fp8e4m3) (a1 : FVec Ideal Pre_finite.S6x4096x8 .f32) (a2 : FVec Ideal Pre_finite.S64x96 .f32)
    (a3 : FVec Ideal Pre_finite.S6144x2560 .bf16) (a4 : FVec Ideal Pre_finite.S2560x96 .bf16) (a5 : FVec Ideal Pre_finite.S6x127x8x96 .fp8e5m2)
    (a6 : FVec Ideal Pre_finite.S6x127x8 .f32) (j : Fin 64) (d : Fin 96)
    (h : Cert.Pre_finite.fn (F := Ideal) a0 a1 a2 a3 a4 a5 a6 (ix2 j d) = 1#1) : max (a2 (ix2 j d)) (-(a2 (ix2 j d))) < (⊤ : EReal) := by
  unfold Cert.Pre_finite.fn at h
  have e : (FloatOps.cmpf .olt (FloatOps.absf (a2 (ix2 j d))) (FloatOps.ofBits .f32 0x7F800000#32) : BitVec 1) = 1#1 := h
  have et : (FloatOps.ofBits .f32 0x7F800000#32 : Ideal .f32) = (⊤ : EReal) := by
    show Ideal.ofBits .f32 0x7F800000#32 = ⊤
    simp [Ideal.ofBits, Ideal.ieee]
  rw [et, Ideal.cmpf_def, Ideal.absf_def] at e
  by_contra hn
  simp [Ideal.cmp, hn] at e

theorem finite_of_pre (m : (ℓ : Loc KernelIdeal.nD KernelIdeal.τ KernelIdeal.sig) → Buf (Elt Ideal) ℓ)
    (h : Cert.Pre_KernelIdeal_finite m) (ρ : Dev KernelIdeal.nD → PrngReg) (c : Dev KernelIdeal.nD) :
    Cert.KernelIdeal.Gen.FiniteRow (Cert.KernelIdeal.Gen.V3 m ρ c KernelIdeal.main_v23) := by
  intro j
  obtain ⟨q, rfl⟩ : ∃ q : Fin 6144, j = ix2 0 q := ⟨j 1, by
    funext a
    match a with
    | ⟨0, _⟩ => exact Fin.ext (by have := (j 0).isLt; change (j 0).val < 1 at this; show (j 0).val = 0; omega)
    | ⟨1, _⟩ => rfl⟩
  have e := Cert.KernelIdeal.Gen.in_peRow m ρ c q
  refine (congrArg (fun a : EReal => a - a) e).trans (sub_self_of_abs_lt _ ?_)
  exact abs_lt_of_pre _ _ _ _ _ _ _ _ _ (congrFun (h c) _)

end Cert.Proof
-- ==== Proof.KernelRun.lean ====
/- The run of the kernel with its results named: `run_values` says that @main, launched on memory `m`, ends with each
   of its four results at the contents `W9` of its buffer — the fold of the host stretches and of the three regions'
   write-backs over `m` — and with the arguments as they were. It is the generated `frame`, with the results read too. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with each result at `W9` and each argument unchanged. -/
theorem run_values : θ_run defs (onTc (τ := τ) (main (F := F))) ⟨m, fun _ => 0, ρ⟩ (fun r => (∀ c : Dev nD,
      r.2.mem ((c.tc : Thread nD τ).loc main_v36) = W9 m ρ c (Proc.devRef .tc main_v36)
      ∧ r.2.mem ((c.tc : Thread nD τ).loc main_v29) = W9 m ρ c (Proc.devRef .tc main_v29)
      ∧ r.2.mem ((c.tc : Thread nD τ).loc main_v25_3) = W9 m ρ c (Proc.devRef .tc main_v25_3)
      ∧ r.2.mem ((c.tc : Thread nD τ).loc main_v38) = W9 m ρ c (Proc.devRef .tc main_v38)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v36 (by decide)),
       h c _ (mem_uc main_v29 (by decide)),
       h c _ (mem_uc main_v25_3 (by decide)),
       h c _ (mem_uc main_v38 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩), funext fun g => hz g (.inr (no_unscoped g.2))⟩)

end Cert.KernelIdeal.Gen

end
-- ==== Proof.RefSums.lean ====
/- Sums over three axes, read as iterated sums: a contraction over three axes, and a host sum over the first three of
   four axes. -/
module

public import proofs.«01_k».proof.Proof.Gen.ReferenceIdeal.Read
public import Idealize.ShloMosaic.Lib.Pointwise
public import Idealize.ShloMosaic.Lib.ValueIdx
public import Idealize.ShloMosaic.PureOps.Ideal.Laws

@[expose] public section

set_option maxRecDepth 16384

noncomputable section

namespace Cert.RefSums

open Idealize.ShloMosaic Idealize.ShloMosaic.Pointwise

section Contract
variable {sl sr so : Shape} (d : DotDims sl sr so)

theorem rank_contr3 {a b c : Fin sl.rank} (hc : d.lhsContracting = [a, b, c]) : d.contr.rank = 3 := by
  rw [d.rank_contr, hc]; rfl

theorem size_contr3 {a b c : Fin sl.rank} (hc : d.lhsContracting = [a, b, c]) {K₁ K₂ K₃ : Nat} (h₁ : sl.size a = K₁)
    (h₂ : sl.size b = K₂) (h₃ : sl.size c = K₃) (p : Fin d.contr.rank) :
    (if p.val = 0 then K₁ else if p.val = 1 then K₂ else K₃) = d.contr.size p := by
  subst h₁ h₂ h₃
  have : ∀ (l : List (Fin sl.rank)) (_ : l = [a, b, c]) (p : Fin (l.map sl.size).length),
      (if p.val = 0 then sl.size a else if p.val = 1 then sl.size b else sl.size c) = (l.map sl.size)[p] := by
    rintro _ rfl ⟨p, hp⟩
    have : p = 0 ∨ p = 1 ∨ p = 2 := by simp at hp; omega
    rcases this with rfl | rfl | rfl <;> rfl
  exact this _ hc p

/-- The contraction index of a three-axis contraction, from its coordinates. -/
def contrIdx3 {a b c : Fin sl.rank} (hc : d.lhsContracting = [a, b, c]) {K₁ K₂ K₃ : Nat} (h₁ : sl.size a = K₁)
    (h₂ : sl.size b = K₂) (h₃ : sl.size c = K₃) (k₁ : Fin K₁) (k₂ : Fin K₂) (k₃ : Fin K₃) : d.contr.Idx :=
  fun p => if h : p.val = 0 then k₁.cast (by rw [← size_contr3 d hc h₁ h₂ h₃ p, if_pos h])
    else if h' : p.val = 1 then k₂.cast (by rw [← size_contr3 d hc h₁ h₂ h₃ p, if_neg h, if_pos h'])
    else k₃.cast (by rw [← size_contr3 d hc h₁ h₂ h₃ p, if_neg h, if_neg h'])

/-- Three-axis contraction indices are the triples of coordinates on those axes. -/
def contrEquiv3 {a b c : Fin sl.rank} (hc : d.lhsContracting = [a, b, c]) {K₁ K₂ K₃ : Nat} (h₁ : sl.size a = K₁)
    (h₂ : sl.size b = K₂) (h₃ : sl.size c = K₃) : Fin K₁ × Fin K₂ × Fin K₃ ≃ d.contr.Idx where
  toFun k := contrIdx3 d hc h₁ h₂ h₃ k.1 k.2.1 k.2.2
  invFun kk :=
    ((kk ⟨0, by rw [rank_contr3 d hc]; omega⟩).cast (size_contr3 d hc h₁ h₂ h₃ _).symm,
     (kk ⟨1, by rw [rank_contr3 d hc]; omega⟩).cast (size_contr3 d hc h₁ h₂ h₃ _).symm,
     (kk ⟨2, by rw [rank_contr3 d hc]; omega⟩).cast (size_contr3 d hc h₁ h₂ h₃ _).symm)
  left_inv _ := rfl
  right_inv kk := by
    funext p
    have : p = ⟨0, by rw [rank_contr3 d hc]; omega⟩ ∨ p = ⟨1, by rw [rank_contr3 d hc]; omega⟩
        ∨ p = ⟨2, by rw [rank_contr3 d hc]; omega⟩ := by
      have := rank_contr3 d hc
      rcases p with ⟨p, hp⟩
      simp only [Fin.mk.injEq]; omega
    rcases this with rfl | rfl | rfl <;> rfl

/-- A contraction over three axes at a result index, the operands' indices named. -/
theorem matmul3 {a b c : Fin sl.rank} (hc : d.lhsContracting = [a, b, c]) {K₁ K₂ K₃ : Nat} (h₁ : sl.size a = K₁)
    (h₂ : sl.size b = K₂) (h₃ : sl.size c = K₃) (lhs : sl.Idx → EReal) (rhs : sr.Idx → EReal) (acc : so.Idx → EReal) (j : so.Idx)
    (L : Fin K₁ → Fin K₂ → Fin K₃ → sl.Idx) (R : Fin K₁ → Fin K₂ → Fin K₃ → sr.Idx)
    (hL : ∀ k₁ k₂ k₃, d.lhsIdx j (contrIdx3 d hc h₁ h₂ h₃ k₁ k₂ k₃) = L k₁ k₂ k₃)
    (hR : ∀ k₁ k₂ k₃, d.rhsIdx j (contrIdx3 d hc h₁ h₂ h₃ k₁ k₂ k₃) = R k₁ k₂ k₃) :
    Ideal.matmul d lhs rhs acc j = acc j + ∑ k₁ : Fin K₁, ∑ k₂ : Fin K₂, ∑ k₃ : Fin K₃, lhs (L k₁ k₂ k₃) * rhs (R k₁ k₂ k₃) := by
  refine congrArg (acc j + ·) ?_
  rw [← Fintype.sum_equiv (contrEquiv3 d hc h₁ h₂ h₃) (fun k => lhs (L k.1 k.2.1 k.2.2) * rhs (R k.1 k.2.1 k.2.2)) _
    (fun k => by rw [← hL, ← hR]; rfl)]
  simp only [Fintype.sum_prod_type]

end Contract

/-- A host sum over the first three of four axes, at a result index. -/
theorem hostReduceAdd_first3 {n0 n1 n2 n3 : Nat} (h : (⟨4, ![n0, n1, n2, n3]⟩ : Shape).ReducesTo [0, 1, 2] ⟨1, ![n3]⟩)
    (v : (⟨4, ![n0, n1, n2, n3]⟩ : Shape).Idx → EReal) (init : EReal) (f : Fin n3) :
    Ideal.hostReduceAdd h v init (ix1 f) = init + ∑ k0 : Fin n0, ∑ k1 : Fin n1, ∑ k2 : Fin n2, v (ix4 k0 k1 k2 f) := by
  refine congrArg (init + ·) ?_
  refine (Finset.sum_filter_eq_sum_of_fiber _ (fun k : Fin n0 × Fin n1 × Fin n2 => ix4 k.1 k.2.1 k.2.2 f)
    (fun _ _ e => Prod.ext (congrFun e 0) (Prod.ext (congrFun e 1) (congrFun e 2))) ?_ v).trans ?_
  · intro i
    constructor
    · intro e
      refine ⟨(i 0, i 1, i 2), ?_⟩
      have e3 := congrArg Fin.val (congrFun e 0)
      funext a; apply Fin.ext
      match a with
      | ⟨0, _⟩ => rfl
      | ⟨1, _⟩ => rfl
      | ⟨2, _⟩ => rfl
      | ⟨3, _⟩ => exact e3.symm
    · rintro ⟨k, rfl⟩
      funext b
      match b with
      | ⟨0, _⟩ => rfl
  · simp only [Fintype.sum_prod_type]

open Cert.ReferenceIdeal Cert.ReferenceIdeal.Gen

variable [Facts]

/-- The second weight's gradient: a contraction over batch, head and chunk. -/
theorem dot_dw2 (a : FVec Ideal S6x127x8x2560 .bf16) (g : FVec Ideal S6x127x8x96 .bf16) (f : Fin 2560) (e : Fin 96) :
    (Host.dotGeneral dot_S6x127x8x2560_S6x127x8x96_S2560x96_021_021_3_3_n_n none a g : FVec Ideal S2560x96 .f32) (ix2 f e)
      = ∑ b : Fin 6, ∑ h : Fin 8, ∑ i : Fin 127, a (ix4 b i h f) * g (ix4 b i h e) := by
  refine (matmul3 dot_S6x127x8x2560_S6x127x8x96_S2560x96_021_021_3_3_n_n (a := 0) (b := 2) (c := 1) rfl (K₁ := 6) (K₂ := 8) (K₃ := 127) rfl rfl rfl
    a g (fun _ => (0 : EReal)) (ix2 f e) (fun b h i => ix4 b i h f) (fun b h i => ix4 b i h e) ?_ ?_).trans (zero_add _)
  · intro b h i; funext x
    match x with
    | ⟨0, _⟩ => rfl
    | ⟨1, _⟩ => rfl
    | ⟨2, _⟩ => rfl
    | ⟨3, _⟩ => rfl
  · intro b h i; funext x
    match x with
    | ⟨0, _⟩ => rfl
    | ⟨1, _⟩ => rfl
    | ⟨2, _⟩ => rfl
    | ⟨3, _⟩ => rfl

/-- The first weight's gradient: a contraction over batch, head and chunk. -/
theorem dot_dw1 (a : FVec Ideal S6x127x64x8x96 .bf16) (g : FVec Ideal S6x127x8x2560 .bf16) (j : Fin 64) (d : Fin 96) (f : Fin 2560) :
    (Host.dotGeneral dot_S6x127x64x8x96_S6x127x8x2560_S64x96x2560_031_021_24_3_n_n none a g : FVec Ideal S64x96x2560 .f32) (ix3 j d f)
      = ∑ b : Fin 6, ∑ h : Fin 8, ∑ i : Fin 127, a (ix5 b i j h d) * g (ix4 b i h f) := by
  refine (matmul3 dot_S6x127x64x8x96_S6x127x8x2560_S64x96x2560_031_021_24_3_n_n (a := 0) (b := 3) (c := 1) rfl (K₁ := 6) (K₂ := 8) (K₃ := 127) rfl rfl rfl
    a g (fun _ => (0 : EReal)) (ix3 j d f) (fun b h i => ix5 b i j h d) (fun b h i => ix4 b i h f) ?_ ?_).trans (zero_add _)
  · intro b h i; funext x
    match x with
    | ⟨0, _⟩ => rfl
    | ⟨1, _⟩ => rfl
    | ⟨2, _⟩ => rfl
    | ⟨3, _⟩ => rfl
    | ⟨4, _⟩ => rfl
  · intro b h i; funext x
    match x with
    | ⟨0, _⟩ => rfl
    | ⟨1, _⟩ => rfl
    | ⟨2, _⟩ => rfl
    | ⟨3, _⟩ => rfl

end Cert.RefSums
-- ==== Proof.RefValue.lean ====
/- The reference's results, read as sums over its arguments: the host's operations give the backward pass of `Spec`. The
   parameters are the decoded codes (`r0`, `r1`) and the arguments the host reads itself. -/
module

public import proofs.«01_k».proof.Proof.RefSums
public import proofs.«01_k».proof.Proof.Spec
public import Idealize.ShloMosaic.Lib.Pipeline.ValueKit
public import Idealize.ShloMosaic.Lib.Pipeline.Covers

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Pointwise
open Cert.Spec Cert.RefSums

variable (x1 : FVec Ideal S6x4096x8 .f32) (x2 : FVec Ideal S64x96 .f32) (x3 : FVec Ideal S6144x2560 .bf16) (x4 : FVec Ideal S2560x96 .bf16)
  (x6 : FVec Ideal S6x127x8 .f32) (r0 : FVec Ideal S6x4096x768 .bf16) (r1 : FVec Ideal S6x127x8x96 .bf16)

theorem idx2_ext {n0 n1 : Nat} {i j : (⟨2, ![n0, n1]⟩ : Shape).Idx} (h0 : (i 0).val = (j 0).val) (h1 : (i 1).val = (j 1).val) : i = j := by
  funext a
  match a with
  | ⟨0, _⟩ => exact Fin.ext h0
  | ⟨1, _⟩ => exact Fin.ext h1
theorem idx3_ext {n0 n1 n2 : Nat} {i j : (⟨3, ![n0, n1, n2]⟩ : Shape).Idx} (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2
theorem idx4_ext {n0 n1 n2 n3 : Nat} {i j : (⟨4, ![n0, n1, n2, n3]⟩ : Shape).Idx} (h0 : (i 0).val = (j 0).val) (h1 : (i 1).val = (j 1).val)
    (h2 : (i 2).val = (j 2).val) (h3 : (i 3).val = (j 3).val) : i = j := by
  funext a
  match a with
  | ⟨0, _⟩ => exact Fin.ext h0
  | ⟨1, _⟩ => exact Fin.ext h1
  | ⟨2, _⟩ => exact Fin.ext h2
  | ⟨3, _⟩ => exact Fin.ext h3

/-! ## The stages at an index -/

/-- A window's keys: its 64 positions are contiguous, the first 32 from its own chunk and the last 32 from the next. -/
theorem keys_at (b : Fin 6) (i : Fin 127) (j : Fin 64) (h : Fin 8) (d : Fin 96) :
    val_main_v9 (F := Ideal) x1 r0 (ix5 b i j h d) = keyAt r0 x1 b i h ⟨j.val * 96 + d.val, by omega⟩ := by
  unfold val_main_v9 val_main_v8 val_main_v7 val_main_v6 val_main_v5 val_main_v4 val_main_v3 val_main_v2 val_main_v1
  pointwise
  unfold keyAt
  split
  · exact congrArg₂ (· * ·) (congrArg r0 (ix3_eq rfl (by dsimp only; omega) (by dsimp only; omega)))
      (congrArg x1 (ix3_eq rfl (by dsimp only; omega) rfl))
  · exact congrArg₂ (· * ·) (congrArg r0 (ix3_eq rfl (by dsimp only; omega) (by dsimp only; omega)))
      (congrArg x1 (ix3_eq rfl (by dsimp only; omega) rfl))

theorem dot14_at (v9 : FVec Ideal S6x127x64x8x96 .bf16) (b : Fin 6) (i : Fin 127) (h : Fin 8) (f : Fin 2560) :
    (Host.dotGeneral (φ₁ := .bf16) (φ₂ := .bf16) dot_S6x127x64x8x96_S64x96x2560_S6x127x8x2560_42_10_013_2_n_n none v9 (val_main_v10 (F := Ideal) x3) :
        FVec Ideal S6x127x8x2560 .f32) (ix4 b i h f)
      = ∑ d : Fin 96, ∑ j : Fin 64, v9 (ix5 b i j h d) * x3 (ix2 ⟨j.val * 96 + d.val, by omega⟩ f) := by
  unfold val_main_v10
  pointwise

theorem pe_at (x : Fin 6144) : val_main_v11 (F := Ideal) x2 (ix1 x) = peAt x2 x := by
  unfold val_main_v11
  pointwise
  rfl

theorem bias_at (b : Fin 6) (i : Fin 127) (h : Fin 8) (f : Fin 2560) :
    val_main_v16 (F := Ideal) x2 x3 (ix4 b i h f) = ∑ x : Fin 6144, peAt x2 x * x3 (ix2 x f) := by
  have e : val_main_v16 (F := Ideal) x2 x3 (ix4 b i h f) = val_main_v13 (F := Ideal) x2 x3 (ix1 f) := by
    unfold val_main_v16 val_main_v15
    generalize val_main_v13 (F := Ideal) x2 x3 = y
    pointwise
  rw [e]
  refine (val_main_v13_apply x2 x3 (ix1 f)).trans (Finset.sum_congr rfl fun x _ => congrArg₂ (· * ·) (pe_at x2 x) ?_)
  exact congrArg x3 (idx2_ext rfl rfl)

theorem pre_at (b : Fin 6) (i : Fin 127) (h : Fin 8) (f : Fin 2560) :
    val_main_v17 (F := Ideal) x1 x2 x3 r0 (ix4 b i h f) = preAct r0 x1 x2 x3 b i h f := by
  refine congrArg₂ (fun a c : EReal => a + c) ?_ (bias_at x2 x3 b i h f)
  rw [sum_lanes fun x => keyAt r0 x1 b i h x * x3 (ix2 x f)]
  refine (dot14_at x3 (val_main_v9 (F := Ideal) x1 r0) b i h f).trans (Finset.sum_congr rfl fun d _ => Finset.sum_congr rfl fun j _ => ?_)
  exact congrArg (fun a : EReal => a * _) (keys_at x1 r0 b i j h d)

theorem sig_at (b : Fin 6) (i : Fin 127) (h : Fin 8) (f : Fin 2560) :
    val_main_v23 (F := Ideal) x1 x2 x3 r0 (ix4 b i h f) = Ideal.logistic (preAct r0 x1 x2 x3 b i h f) := by
  rw [← pre_at]
  unfold val_main_v23 val_main_v22 val_main_v21 val_main_v20 val_main_v19 val_main_v18 val_main_cst val_main_cst_0
  generalize val_main_v17 (F := Ideal) x1 x2 x3 r0 = z
  pointwise
  rfl

theorem dck_at (b : Fin 6) (i : Fin 127) (h : Fin 8) (e : Fin 96) :
    val_main_v28 (F := Ideal) x6 r1 (ix4 b i h e) = (r1 (ix4 b i h e) * x6 (ix3 b i h) : EReal) := by
  unfold val_main_v28 val_main_v27 val_main_v26 val_main_v25
  pointwise

theorem hid_at (b : Fin 6) (i : Fin 127) (h : Fin 8) (f : Fin 2560) :
    val_main_v34 (F := Ideal) x4 x6 r1 (ix4 b i h f) = dHid x4 r1 x6 b i h f := by
  refine congrArg₂ (fun a c : EReal => a * c) ?_ ?_
  · exact (val_main_v31_apply x4 r1 (ix4 b i h f)).trans (Finset.sum_congr rfl fun e _ =>
      congrArg₂ (· * ·) (congrArg r1 (idx4_ext rfl rfl rfl rfl)) (congrArg x4 (idx2_ext rfl rfl)))
  · unfold val_main_v33 val_main_v32
    pointwise

theorem grad_at (b : Fin 6) (i : Fin 127) (h : Fin 8) (f : Fin 2560) :
    val_main_v41 (F := Ideal) x1 x2 x3 x4 x6 r0 r1 (ix4 b i h f) = dPre r0 x1 x2 x3 x4 r1 x6 b i h f := by
  unfold dPre siluGrad
  rw [← sig_at, ← pre_at, ← hid_at]
  unfold val_main_v41 val_main_v40 val_main_v39 val_main_v38 val_main_v37 val_main_v36 val_main_v35 val_main_cst_1 val_main_cst_2
  generalize val_main_v17 (F := Ideal) x1 x2 x3 r0 = z
  generalize val_main_v23 (F := Ideal) x1 x2 x3 r0 = s
  generalize val_main_v34 (F := Ideal) x4 x6 r1 = g
  pointwise

theorem grad42_at (b : Fin 6) (i : Fin 127) (h : Fin 8) (f : Fin 2560) :
    val_main_v42 (F := Ideal) x1 x2 x3 x4 x6 r0 r1 (ix4 b i h f) = dPre r0 x1 x2 x3 x4 r1 x6 b i h f := by
  rw [← grad_at]
  unfold val_main_v42
  generalize val_main_v41 (F := Ideal) x1 x2 x3 x4 x6 r0 r1 = y
  pointwise

/-! ## The results -/

/-- The second weight's gradient. -/
theorem ref_dw2 (f : Fin 2560) (e : Fin 96) :
    val_main_v30 (F := Ideal) x1 x2 x3 x6 r0 r1 (ix2 f e) = dW2 r0 x1 x2 x3 r1 x6 f e := by
  unfold dW2
  refine (dot_dw2 (val_main_v29 (F := Ideal) x1 x2 x3 r0) (val_main_v28 (F := Ideal) x6 r1) f e).trans
    (Finset.sum_congr rfl fun b _ => Finset.sum_comm.trans (Finset.sum_congr rfl fun i _ => Finset.sum_congr rfl fun h _ => ?_))
  exact congrArg₂ (· * ·) (congrArg₂ (fun a c : EReal => a * c) (pre_at x1 x2 x3 r0 b i h f) (sig_at x1 x2 x3 r0 b i h f)) (dck_at x6 r1 b i h e)

theorem sum_at (f : Fin 2560) : val_main_v43 (F := Ideal) x1 x2 x3 x4 x6 r0 r1 (ix1 f)
    = ∑ b : Fin 6, ∑ i : Fin 127, ∑ h : Fin 8, dPre r0 x1 x2 x3 x4 r1 x6 b i h f := by
  have hv := grad_at x1 x2 x3 x4 x6 r0 r1
  unfold val_main_v43 val_main_cst_3
  generalize val_main_v41 (F := Ideal) x1 x2 x3 x4 x6 r0 r1 = y at hv ⊢
  pointwise
  rw [hostReduceAdd_first3, zero_add]
  exact Finset.sum_congr rfl fun b _ => Finset.sum_congr rfl fun i _ => Finset.sum_congr rfl fun h _ => hv b i h f

/-- The first weight's gradient. -/
theorem ref_dw1 (x : Fin 6144) (f : Fin 2560) :
    val_main_v51 (F := Ideal) x1 x2 x3 x4 x6 r0 r1 (ix2 x f) = dW1 r0 x1 x2 x3 x4 r1 x6 x f := by
  have e45 : val_main_v45 (F := Ideal) x1 x2 x3 x4 x6 r0 r1 (ix2 x f)
      = val_main_v44 (F := Ideal) x1 x2 x3 x4 x6 r0 r1 (ix3 ⟨x.val / 96, by omega⟩ ⟨x.val % 96, by omega⟩ f) := by
    unfold val_main_v45
    generalize val_main_v44 (F := Ideal) x1 x2 x3 x4 x6 r0 r1 = y
    pointwise
  have e48 : val_main_v48 (F := Ideal) x2 (ix2 x f) = peAt x2 x := by
    rw [← pe_at]
    unfold val_main_v48 val_main_v46
    generalize val_main_v11 (F := Ideal) x2 = y
    pointwise
  have e49 : val_main_v49 (F := Ideal) x1 x2 x3 x4 x6 r0 r1 (ix2 x f) = val_main_v43 (F := Ideal) x1 x2 x3 x4 x6 r0 r1 (ix1 f) := by
    unfold val_main_v49 val_main_v47
    generalize val_main_v43 (F := Ideal) x1 x2 x3 x4 x6 r0 r1 = y
    pointwise
  have e44 (j : Fin 64) (d : Fin 96) : val_main_v44 (F := Ideal) x1 x2 x3 x4 x6 r0 r1 (ix3 j d f)
      = ∑ b : Fin 6, ∑ i : Fin 127, ∑ h : Fin 8, keyAt r0 x1 b i h ⟨j.val * 96 + d.val, by omega⟩ * dPre r0 x1 x2 x3 x4 r1 x6 b i h f := by
    have hk := fun b i h => keys_at x1 r0 b i j h d
    have hg := grad42_at x1 x2 x3 x4 x6 r0 r1
    unfold val_main_v44
    generalize val_main_v9 (F := Ideal) x1 r0 = a at hk ⊢
    generalize val_main_v42 (F := Ideal) x1 x2 x3 x4 x6 r0 r1 = g at hg ⊢
    rw [dot_dw1]
    exact Finset.sum_congr rfl fun b _ => Finset.sum_comm.trans (Finset.sum_congr rfl fun i _ => Finset.sum_congr rfl fun h _ =>
      congrArg₂ (· * ·) (hk b i h) (hg b i h f))
  have ex : (⟨x.val / 96 * 96 + x.val % 96, by omega⟩ : Fin 6144) = x := Fin.ext (by dsimp only; omega)
  have es := sum_at x1 x2 x3 x4 x6 r0 r1 f
  specialize e44 ⟨x.val / 96, by omega⟩ ⟨x.val % 96, by omega⟩
  dsimp only at e44
  rw [ex] at e44
  unfold dW1
  rw [← e44, ← es, ← e45, ← e48, ← e49]
  unfold val_main_v51 val_main_v50
  generalize val_main_v45 (F := Ideal) x1 x2 x3 x4 x6 r0 r1 = y1
  generalize val_main_v48 (F := Ideal) x2 = y2
  generalize val_main_v49 (F := Ideal) x1 x2 x3 x4 x6 r0 r1 = y3
  pointwise

/-- The gradient of a window's key. -/
theorem win_at (b : Fin 6) (i : Fin 127) (j : Fin 64) (h : Fin 8) (d : Fin 96) :
    val_main_v53 (F := Ideal) x1 x2 x3 x4 x6 r0 r1 (ix5 b i j h d)
      = ∑ f : Fin 2560, dPre r0 x1 x2 x3 x4 r1 x6 b i h f * x3 (ix2 ⟨j.val * 96 + d.val, by omega⟩ f) := by
  have e53 : val_main_v53 (F := Ideal) x1 x2 x3 x4 x6 r0 r1 (ix5 b i j h d)
      = val_main_v52 (F := Ideal) x1 x2 x3 x4 x6 r0 r1 (ix5 j d b i h) := by
    unfold val_main_v53
    generalize val_main_v52 (F := Ideal) x1 x2 x3 x4 x6 r0 r1 = y
    pointwise
  have e10 (f : Fin 2560) : val_main_v10 (F := Ideal) x3 (ix3 j d f) = x3 (ix2 ⟨j.val * 96 + d.val, by omega⟩ f) := by
    unfold val_main_v10
    pointwise
  have hg := grad42_at x1 x2 x3 x4 x6 r0 r1
  rw [e53, val_main_v52_apply]
  generalize val_main_v10 (F := Ideal) x3 = w at e10 ⊢
  generalize val_main_v42 (F := Ideal) x1 x2 x3 x4 x6 r0 r1 = g at hg ⊢
  refine Finset.sum_congr rfl fun f _ => (mul_comm _ _).trans (congrArg₂ (· * ·) ?_ ?_)
  · have e : ridx_main_v52 (ix5 j d b i h) f = ix4 b i h f := idx4_ext rfl rfl rfl rfl
    rw [e, hg]
  · have e : lidx_main_v52 (ix5 j d b i h) f = ix3 j d f := idx3_ext rfl rfl rfl
    rw [e, e10]

theorem sitofp_zero : (FloatOps.sitofp FTy.f32 0#32 : Ideal .f32) = (0 : EReal) := by
  show (((0#32 : BitVec 32).toInt : ℝ) : EReal) = 0
  simp

theorem dite_both {P Q : Prop} [Decidable P] [Decidable Q] {f : P → EReal} {g : Q → EReal} {z z' : EReal} (hPQ : P ↔ Q)
    (hfg : ∀ p q, f p = g q) (hz : z = z') : (if h : P then f h else z) = (if h : Q then g h else z') := by
  by_cases hp : P
  · rw [dif_pos hp, dif_pos (hPQ.mp hp)]
    exact hfg _ _
  · rw [dif_neg hp, dif_neg fun hq => hp (hPQ.mpr hq)]
    exact hz

theorem fold_at (y : FVec Ideal S6x127x64x8x96 .f32) (b : Fin 6) (k : Fin 4096) (l : Fin 768) :
    (shapeCast S6x4096x768 (addf
        (pad S6x128x32x8x96 ![0, 0, 0, 0, 0] ![0, 1, 0, 0, 0] ![0, 0, 0, 0, 0]
          (extractStridedSlice S6x127x32x8x96 ![0, 0, 0, 0, 0] y slices_S6x127x64x8x96_S6x127x32x8x96_0_0_0_0_0)
          (sitofp .f32 (constantI S_ 32 0#32)) pads_S6x127x32x8x96_S6x128x32x8x96_000_010_000_000_000 h_S_)
        (pad S6x128x32x8x96 ![0, 1, 0, 0, 0] ![0, 0, 0, 0, 0] ![0, 0, 0, 0, 0]
          (extractStridedSlice S6x127x32x8x96 ![0, 0, 32, 0, 0] y slices_S6x127x64x8x96_S6x127x32x8x96_0_0_32_0_0)
          (sitofp .f32 (constantI S_ 32 0#32)) pads_S6x127x32x8x96_S6x128x32x8x96_000_100_000_000_000 h_S_))
      shapeCasts_S6x128x32x8x96_S6x4096x768 : FVec Ideal _ .f32) (ix3 b k l)
    = (if hc : k.val / 32 < 127 then
          y (ix5 b ⟨k.val / 32, hc⟩ ⟨k.val % 32, by omega⟩ ⟨l.val / 96, by omega⟩ ⟨l.val % 96, by omega⟩) else (0 : EReal))
      + (if hc : 1 ≤ k.val / 32 then
          y (ix5 b ⟨k.val / 32 - 1, by omega⟩ ⟨32 + k.val % 32, by omega⟩ ⟨l.val / 96, by omega⟩ ⟨l.val % 96, by omega⟩) else (0 : EReal)) := by
  pointwise
  refine congrArg₂ (fun a c : EReal => a + c) (dite_both ?_ (fun _ _ => ?_) sitofp_zero) (dite_both ?_ (fun _ _ => ?_) sitofp_zero)
  · omega
  · rfl
  · omega
  · rfl

/-- The keys' gradient. -/
theorem ref_dk (b : Fin 6) (k : Fin 4096) (l : Fin 768) :
    val_main_v61 (F := Ideal) x1 x2 x3 x4 x6 r0 r1 (ix3 b k l)
      = dK r0 x1 x2 x3 x4 r1 x6 b ⟨k.val / 32, by omega⟩ ⟨k.val % 32, by omega⟩ ⟨l.val / 96, by omega⟩ ⟨l.val % 96, by omega⟩ := by
  have hw := win_at x1 x2 x3 x4 x6 r0 r1
  have hf := fold_at (val_main_v53 (F := Ideal) x1 x2 x3 x4 x6 r0 r1) b k l
  have e : val_main_v61 (F := Ideal) x1 x2 x3 x4 x6 r0 r1 (ix3 b k l) = _ := hf
  rw [e]
  generalize val_main_v53 (F := Ideal) x1 x2 x3 x4 x6 r0 r1 = y at hw ⊢
  unfold dK
  refine congrArg₂ (· + ·) ?_ ?_
  · by_cases hc : k.val / 32 < 127
    · rw [dif_pos hc, dif_pos hc, hw]
    · rw [dif_neg hc, dif_neg hc]
  · by_cases hc : 1 ≤ k.val / 32
    · rw [dif_pos hc, dif_pos hc, hw]
      refine Finset.sum_congr rfl fun f _ => congrArg₂ (· * ·) rfl (congrArg x3 (ix2_eq ?_ rfl))
      dsimp only
      omega
    · rw [dif_neg hc, dif_neg hc]

/-! ## The decoded codes -/

variable (m : (ℓ : Loc nD τ sig) → Buf (Elt Ideal) ℓ) (c : Dev nD)

theorem decoded_k : Value.reg_main_v0_0 m c = m (c.tc.loc main_arg0) := by
  unfold Value.reg_main_v0_0
  refine (dats m 0 c).arrAt_eq_of_covers 2 _ (by decide +kernel) fun t hf y => ?_
  blk_simp
  rw [after0_2]
  frame_out
  exact congrArg (m (c.tc.loc main_arg0)) (by funext a; rfl)

theorem decoded_dck : Value.reg_main_v0_1 m c = m (c.tc.loc main_arg5) := by
  unfold Value.reg_main_v0_1
  refine (dats m 0 c).arrAt_eq_of_covers 3 _ (by decide +kernel) fun t hf y => ?_
  blk_simp
  rw [after0_3]
  frame_out
  exact congrArg (m (c.tc.loc main_arg5)) (by funext a; rfl)

end Cert.ReferenceIdeal.Read
-- ==== Proof.Algebraic.lean ====
/- The value claim: over the reals the kernel's keys', first weight's and second weight's gradients are the reference's. -/
module

public import proofs.«01_k».proof.Proof.Precondition
public import proofs.«01_k».proof.Proof.KernelRun
public import proofs.«01_k».proof.Proof.RefValue

@[expose] public section

set_option maxRecDepth 16384

noncomputable section

namespace Cert.Proof

open Idealize.ShloMosaic Idealize.ShloMosaic.TcCoe Idealize.ShloMosaic.Pointwise Idealize.SL.Sem

/-- Every index of a two-axis array is a pair of coordinates. -/
theorem idx2_of {n0 n1 : Nat} (i : (⟨2, ![n0, n1]⟩ : Shape).Idx) : ∃ a b, i = ix2 a b := ⟨i 0, i 1, by
  funext x
  match x with
  | ⟨0, _⟩ => rfl
  | ⟨1, _⟩ => rfl⟩
theorem idx3_of {n0 n1 n2 : Nat} (i : (⟨3, ![n0, n1, n2]⟩ : Shape).Idx) : ∃ a b c, i = ix3 a b c := ⟨i 0, i 1, i 2, by
  funext x
  match x with
  | ⟨0, _⟩ => rfl
  | ⟨1, _⟩ => rfl
  | ⟨2, _⟩ => rfl⟩

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ)

/-- The arguments as the kernel finds them. -/
abbrev A0 (c : Dev KernelIdeal.nD) : KernelIdeal.S6x4096x768.Idx → EReal := m (c.tc.loc KernelIdeal.main_arg0)
abbrev A1 (c : Dev KernelIdeal.nD) : KernelIdeal.S6x4096x8.Idx → EReal := m (c.tc.loc KernelIdeal.main_arg1)
abbrev A2 (c : Dev KernelIdeal.nD) : KernelIdeal.S64x96.Idx → EReal := m (c.tc.loc KernelIdeal.main_arg2)
abbrev A3 (c : Dev KernelIdeal.nD) : KernelIdeal.S6144x2560.Idx → EReal := m (c.tc.loc KernelIdeal.main_arg3)
abbrev A4 (c : Dev KernelIdeal.nD) : KernelIdeal.S2560x96.Idx → EReal := m (c.tc.loc KernelIdeal.main_arg4)
abbrev A5 (c : Dev KernelIdeal.nD) : KernelIdeal.S6x127x8x96.Idx → EReal := m (c.tc.loc KernelIdeal.main_arg5)
abbrev A6 (c : Dev KernelIdeal.nD) : KernelIdeal.S6x127x8.Idx → EReal := m (c.tc.loc KernelIdeal.main_arg6)

/-- What the reference finds in the buffers its host operations read, when its arguments are the kernel's. -/
theorem ref_reads (c : Dev KernelIdeal.nD)
    (h : m' ((c.tc : Thread ReferenceIdeal.nD ReferenceIdeal.τ).loc ReferenceIdeal.main_arg0) = m (c.tc.loc KernelIdeal.main_arg0)
      ∧ m' ((c.tc : Thread ReferenceIdeal.nD ReferenceIdeal.τ).loc ReferenceIdeal.main_arg1) = m (c.tc.loc KernelIdeal.main_arg1)
      ∧ m' ((c.tc : Thread ReferenceIdeal.nD ReferenceIdeal.τ).loc ReferenceIdeal.main_arg2) = m (c.tc.loc KernelIdeal.main_arg2)
      ∧ m' ((c.tc : Thread ReferenceIdeal.nD ReferenceIdeal.τ).loc ReferenceIdeal.main_arg3) = m (c.tc.loc KernelIdeal.main_arg3)
      ∧ m' ((c.tc : Thread ReferenceIdeal.nD ReferenceIdeal.τ).loc ReferenceIdeal.main_arg4) = m (c.tc.loc KernelIdeal.main_arg4)
      ∧ m' ((c.tc : Thread ReferenceIdeal.nD ReferenceIdeal.τ).loc ReferenceIdeal.main_arg5) = m (c.tc.loc KernelIdeal.main_arg5)
      ∧ m' ((c.tc : Thread ReferenceIdeal.nD ReferenceIdeal.τ).loc ReferenceIdeal.main_arg6) = m (c.tc.loc KernelIdeal.main_arg6)) :
    ReferenceIdeal.Value.exitV m' c (Proc.devRef .tc ReferenceIdeal.main_v0_0) = A0 m c
    ∧ ReferenceIdeal.Value.exitV m' c (Proc.devRef .tc ReferenceIdeal.main_arg1) = A1 m c
    ∧ ReferenceIdeal.Value.exitV m' c (Proc.devRef .tc ReferenceIdeal.main_arg2) = A2 m c
    ∧ ReferenceIdeal.Value.exitV m' c (Proc.devRef .tc ReferenceIdeal.main_arg3) = A3 m c
    ∧ ReferenceIdeal.Value.exitV m' c (Proc.devRef .tc ReferenceIdeal.main_arg4) = A4 m c
    ∧ ReferenceIdeal.Value.exitV m' c (Proc.devRef .tc ReferenceIdeal.main_v0_1) = A5 m c
    ∧ ReferenceIdeal.Value.exitV m' c (Proc.devRef .tc ReferenceIdeal.main_arg6) = A6 m c :=
  ⟨(ReferenceIdeal.Value.exit_main_v0_0 m' c).trans ((ReferenceIdeal.Read.decoded_k m' c).trans h.1),
    (ReferenceIdeal.Value.exit_main_arg1 m' c).trans h.2.1,
    (ReferenceIdeal.Value.exit_main_arg2 m' c).trans h.2.2.1,
    (ReferenceIdeal.Value.exit_main_arg3 m' c).trans h.2.2.2.1,
    (ReferenceIdeal.Value.exit_main_arg4 m' c).trans h.2.2.2.2.1,
    (ReferenceIdeal.Value.exit_main_v0_1 m' c).trans ((ReferenceIdeal.Read.decoded_dck m' c).trans h.2.2.2.2.2.1),
    (ReferenceIdeal.Value.exit_main_arg6 m' c).trans h.2.2.2.2.2.2⟩

theorem algebraic : Cert.algebraic_KernelIdeal_ReferenceIdeal_on_three_pre_finite (hKernelIdeal := Cert.KernelIdeal.Gen.facts)
    (hReferenceIdeal := Cert.ReferenceIdeal.Gen.facts) (hPre_finite := pre_facts) (hOn_three := on_facts) := by
  intro m g m' g' hpre hargs
  have hpe := fun c => finite_of_pre m hpre g c
  refine ⟨fun c => KernelIdeal.Gen.W9 m g c (Proc.devRef .tc KernelIdeal.main_v36),
    fun c => KernelIdeal.Gen.W9 m g c (Proc.devRef .tc KernelIdeal.main_v29),
    fun c => KernelIdeal.Gen.W9 m g c (Proc.devRef .tc KernelIdeal.main_v25_3),
    fun c => KernelIdeal.Gen.W9 m g c (Proc.devRef .tc KernelIdeal.main_v38), ?_, ?_⟩
  · refine (θ_run _ _ _).mono (fun r h c => ?_) (KernelIdeal.Gen.run_values m g)
    obtain ⟨e36, e29, e25, e38, eargs⟩ := h.1 c
    exact ⟨fun i _ => congrFun e36 i, fun i _ => congrFun e29 i, fun i _ => congrFun e25 i, fun i _ => congrFun e38 i, eargs⟩
  · refine (θ_run _ _ _).mono (fun r h c => ?_) (ReferenceIdeal.Value.run m' g')
    obtain ⟨e61, e51, e30, _, eargs⟩ := h c
    obtain ⟨x0, x1, x2, x3, x4, x5, x6⟩ := ref_reads m m' c (hargs c)
    refine ⟨fun i _ => ?_, fun i _ => ?_, fun i _ => ?_, fun i hi => absurd (show (0#1 : BitVec 1) = 1#1 from hi) (by decide), eargs⟩
    · refine (congrFun (e61.trans (ReferenceIdeal.Read.val_main_v61_eq (ReferenceIdeal.Value.exitV m' c))) i).trans ?_
      obtain ⟨b, k, l, rfl⟩ := idx3_of i
      rw [x0, x1, x2, x3, x4, x5, x6]
      exact (ReferenceIdeal.Read.ref_dk _ _ _ _ _ _ _ b k l).trans (KernelIdeal.Gen.kernel_dk m g c (hpe c) b k l).symm
    · refine (congrFun (e51.trans (ReferenceIdeal.Read.val_main_v51_eq (ReferenceIdeal.Value.exitV m' c))) i).trans ?_
      obtain ⟨x, f, rfl⟩ := idx2_of i
      rw [x0, x1, x2, x3, x4, x5, x6]
      exact (ReferenceIdeal.Read.ref_dw1 _ _ _ _ _ _ _ x f).trans (KernelIdeal.Gen.kernel_dw1 m g c (hpe c) x f).symm
    · refine (congrFun (e30.trans (ReferenceIdeal.Read.val_main_v30_eq (ReferenceIdeal.Value.exitV m' c))) i).trans ?_
      obtain ⟨f, e, rfl⟩ := idx2_of i
      rw [x0, x1, x2, x3, x5, x6]
      exact (ReferenceIdeal.Read.ref_dw2 _ _ _ _ _ _ f e).trans (KernelIdeal.Gen.kernel_dw2 m g c (hpe c) f e).symm

end Cert.Proof
-- ==== Proof.StageValue.lean ====
/- The third call's position embedding gradient: the column sums of the pre-activation's gradient against each row of the
   first weight, as the kernel's last region and the host leave it. -/
module

public import proofs.«01_k».proof.Proof.Gen.StageIdeal.Frame
public import Idealize.ShloMosaic.Lib.Pipeline.ValueKit
public import Idealize.ShloMosaic.Lib.Pipeline.Covers
public import Idealize.ShloMosaic.Lib.StableHlo.ReadAt
public import Idealize.ShloMosaic.Lib.Pointwise
public import Idealize.ShloMosaic.Lib.ValueIdx
public import Idealize.ShloMosaic.PureOps.Ideal.Laws

@[expose] public section

set_option maxRecDepth 16384

noncomputable section

namespace Cert.StageIdeal.Gen

open Idealize.ShloMosaic Idealize.ShloMosaic.TcCoe Idealize.ShloMosaic.Pointwise Idealize.SL.Sem
open Idealize.ShloMosaic.Pipeline (Dat Cfg Window)

/-! ## What the body computes -/

/-- Each entry cancels itself, as a finite one does. -/
def Cancels (g : Vec Ideal S1x2560 .f32) : Prop := ∀ j, g j - g j = 0

/-- The first half: the body splits the sums into a rounded part and two remainders; where they are finite (`x - x = 0`)
    the remainders vanish over the reals and what is left is the sums against the weight's rows. -/
theorem k0_pay3_apply (w : Vec Ideal S512x2560 .bf16) (g : Vec Ideal S1x2560 .f32) (hg : ∀ j, g j - g j = 0)
    (j0 : Fin 1) (j1 : Fin 512) : k0_pay3 w g (ix2 j0 j1) = ∑ f : Fin 2560, g (ix2 0 f) * w (ix2 j1 f) := by
  pointwise [k0_pay3, k0_pay2]
  refine (Finset.sum_eq_single (0 : Fin 16) (fun x _ hx => ?_) (by simp)).trans ?_
  · have hx' : ¬ (x.val < 1) := fun h => hx (Fin.ext (by simp; omega))
    simp only [dif_neg hx', hg, sub_zero, dite_eq_ite, ite_self, zero_mul, Finset.sum_const_zero]
  · rfl

/-- The second half, likewise. -/
theorem k0_pay4_apply (w : Vec Ideal S512x2560 .bf16) (g : Vec Ideal S1x2560 .f32) (hg : ∀ j, g j - g j = 0)
    (j0 : Fin 1) (j1 : Fin 512) : k0_pay4 w g (ix2 j0 j1) = ∑ f : Fin 2560, g (ix2 0 f) * w (ix2 j1 f) := by
  pointwise [k0_pay4, k0_pay2]
  refine (Finset.sum_eq_single (0 : Fin 16) (fun x _ hx => ?_) (by simp)).trans ?_
  · have hx' : ¬ (x.val < 1) := fun h => hx (Fin.ext (by simp; omega))
    simp only [dif_neg hx', hg, sub_zero, dite_eq_ite, ite_self, zero_mul, Finset.sum_const_zero]
  · rfl

/-! ## The region's arrays -/

variable (m : (ℓ : Loc nD τ sig) → Buf (Elt Ideal) ℓ) (ρ : Dev nD → PrngReg) (c : Dev nD)

theorem idx0 : ∀ t : Fin cfg0.N, win0_2.index t = ![t.val % 6, 0] ∧ win0_3.index t = ![6 + t.val % 6, 0]
    ∧ win0_4.index t = ![0, 0] ∧ win0_6.index t = ![0, t.val % 6] ∧ win0_7.index t = ![0, t.val % 6] :=
  (by decide +kernel : ∀ t : Fin grid0.N, _)

/-- The column sums against the weight's row `x`. -/
def dpeAt (g : FVec Ideal S1x2560 .f32) (w : FVec Ideal S6144x2560 .bf16) (x : Fin 6144) : EReal :=
  ∑ f : Fin 2560, g (ix2 0 f) * w (ix2 x f)

/-- The first half of the gradient, as a row. -/
def dpeA (g : FVec Ideal S1x2560 .f32) (w : FVec Ideal S6144x2560 .bf16) : FVec Ideal S1x3072 .f32 :=
  fun i => dpeAt g w ⟨(i 1).val, by have := (i 1).isLt; exact this.trans (by decide)⟩
/-- The second half. -/
def dpeB (g : FVec Ideal S1x2560 .f32) (w : FVec Ideal S6144x2560 .bf16) : FVec Ideal S1x3072 .f32 :=
  fun i => dpeAt g w ⟨3072 + (i 1).val, by have := (i 1).isLt; exact (Nat.add_lt_add_left this _).trans_le (by decide)⟩

variable (hg : Cancels (V m c main_arg1))
include hg

theorem dpeA_eq : (dats (F := Ideal) m 0 c).arrAt 6 cfg0.N = dpeA (V m c main_arg1) (V m c main_arg2) := by
  refine (dats m 0 c).arrAt_eq_of_covers 6 _ (by decide +kernel) fun t hf y => ?_
  blk_simp
  rw [after0_6]
  frame_out
  have ht : t.val < 72 := lt_of_lt_of_eq t.isLt N_0
  change S1x512.Idx at y
  idx_vars y
  refine (k0_pay3_apply (iblk m c 2 t) (iblk m c 4 t) (fun j => hg _) y0 y1).trans ?_
  unfold dpeA dpeAt
  blk_point [iblk, idx0 t]

theorem dpeB_eq : (dats (F := Ideal) m 0 c).arrAt 7 cfg0.N = dpeB (V m c main_arg1) (V m c main_arg2) := by
  refine (dats m 0 c).arrAt_eq_of_covers 7 _ (by decide +kernel) fun t hf y => ?_
  blk_simp
  rw [after0_7]
  frame_out
  have ht : t.val < 72 := lt_of_lt_of_eq t.isLt N_0
  change S1x512.Idx at y
  idx_vars y
  refine (k0_pay4_apply (iblk m c 3 t) (iblk m c 4 t) (fun j => hg _) y0 y1).trans ?_
  unfold dpeB dpeAt
  blk_point [iblk, idx0 t]

/-! ## After the region -/

omit hg in
/-- The result is the two halves, one after the other, laid out by position: the first half. -/
theorem dpeOut_first (W : Valuation τ sig (Elt Ideal)) (j : Fin 64) (d : Fin 96) (q : Fin 3072) (hq : q.val = j.val * 96 + d.val) :
    StableHlo.after hostOps1 W (Proc.devRef .tc main_v5) (ix2 j d) = W (Proc.devRef .tc main_v3_1) (ix2 0 q) := by
  after_reads_at
  rw [dif_pos (by omega)]
  exact congrArg (W (Proc.devRef .tc main_v3_1)) (congrArg (ix2 0) (Fin.ext (by dsimp only; omega)))
omit hg in
/-- The second half. -/
theorem dpeOut_second (W : Valuation τ sig (Elt Ideal)) (j : Fin 64) (d : Fin 96) (q : Fin 3072) (hq : 3072 + q.val = j.val * 96 + d.val) :
    StableHlo.after hostOps1 W (Proc.devRef .tc main_v5) (ix2 j d) = W (Proc.devRef .tc main_v3_2) (ix2 0 q) := by
  after_reads_at
  rw [dif_neg (by omega)]
  exact congrArg (W (Proc.devRef .tc main_v3_2)) (congrArg (ix2 0) (Fin.ext (by dsimp only; omega)))

omit hg in
/-- The contents the operations after the region start from. -/
def exitW : Valuation τ sig (Elt Ideal) :=
  Pipeline.withArrays spec0 c (V0 m c) fun w => (dats (F := Ideal) m 0 c).arrAt w cfg0.N

omit hg in
theorem exit_arr (w : Fin 8) : exitW m c (Proc.devRef .tc (Pipeline.arrRef spec0 w)) = (dats (F := Ideal) m 0 c).arrAt w cfg0.N :=
  Pipeline.withArrays_arr_shared spec0 c (V0 m c) _ ((dats m 0 c).arrAt_sharedIn sharedIn0 (V0 m c) (A_eq m c) cfg0.N) w

/-- The position embedding's gradient. -/
theorem kernel_dpe (j : Fin 64) (d : Fin 96) :
    StableHlo.after hostOps1 (exitW m c) (Proc.devRef .tc main_v5) (ix2 j d)
      = dpeAt (m ((c : Thread nD τ).loc main_arg1)) (m ((c : Thread nD τ).loc main_arg2)) ⟨j.val * 96 + d.val, by omega⟩ := by
  have e1 := V_main_arg1 m c
  have e2 := V_main_arg2 m c
  by_cases h : j.val * 96 + d.val < 3072
  · refine (dpeOut_first _ j d ⟨_, h⟩ rfl).trans ((congrFun ((exit_arr m c 6).trans (dpeA_eq m c hg)) _).trans ?_)
    rw [e1, e2]; rfl
  · refine (dpeOut_second _ j d ⟨j.val * 96 + d.val - 3072, by omega⟩ (by dsimp only; omega)).trans
      ((congrFun ((exit_arr m c 7).trans (dpeB_eq m c hg)) _).trans ?_)
    rw [e1, e2]
    exact congrArg (dpeAt _ _) (Fin.ext (by show 3072 + (j.val * 96 + d.val - 3072) = _; dsimp only; omega))

omit hg in
/-- The run with its result named, and the arguments as they were. -/
theorem run_values : θ_run defs (onTc (τ := τ) (main (F := Ideal))) ⟨m, fun _ => 0, ρ⟩ (fun r => ∀ c : Dev nD,
      r.2.mem ((c.tc : Thread nD τ).loc main_v5) = StableHlo.after hostOps1 (exitW m c) (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v5 (Pipeline.mem_restRefs_of main_v5 (by decide) (by decide))), h.2 c⟩)
    (θ_run_and (run_main m ρ) (unchanged m ρ))

end Cert.StageIdeal.Gen

end
-- ==== Proof.StageAlgebraic.lean ====
/- The value claim of the third call: over the reals its position embedding gradient is the reference's, where the column
   sums it is given are finite. Also the reference's frame: it runs host operations only and has no semaphore. -/
module

public import proofs.«01_k».proof.Proof.Precondition
public import proofs.«01_k».proof.Proof.Algebraic
public import proofs.«01_k».proof.Proof.StageValue
public import proofs.«01_k».proof.Proof.Gen.Pre_finite_sum
public import proofs.«01_k».proof.Proof.Gen.StageReferenceIdeal.Read

@[expose] public section

set_option maxRecDepth 16384

noncomputable section

namespace Cert.Proof

open Idealize.ShloMosaic Idealize.ShloMosaic.TcCoe Idealize.ShloMosaic.Pointwise Idealize.SL.Sem

theorem abs_lt_of_pre_sum (a0 : FVec Ideal Pre_finite_sum.S6144x2560 .bf16) (a1 : FVec Ideal Pre_finite_sum.S1x2560 .f32)
    (a2 : FVec Ideal Pre_finite_sum.S6144x2560 .bf16) (j) (h : Cert.Pre_finite_sum.fn (F := Ideal) a0 a1 a2 j = 1#1) :
    max (a1 j) (-(a1 j)) < (⊤ : EReal) := by
  unfold Cert.Pre_finite_sum.fn at h
  have e : (FloatOps.cmpf .olt (FloatOps.absf (a1 j)) (FloatOps.ofBits .f32 0x7F800000#32) : BitVec 1) = 1#1 := h
  have et : (FloatOps.ofBits .f32 0x7F800000#32 : Ideal .f32) = (⊤ : EReal) := by
    show Ideal.ofBits .f32 0x7F800000#32 = ⊤
    simp [Ideal.ofBits, Ideal.ieee]
  rw [et, Ideal.cmpf_def, Ideal.absf_def] at e
  by_contra hn
  simp [Ideal.cmp, hn] at e

/-- The column sums cancel themselves, as the region finds them. -/
theorem finite_of_pre_sum (m : (ℓ : Loc StageIdeal.nD StageIdeal.τ StageIdeal.sig) → Buf (Elt Ideal) ℓ)
    (h : Cert.Pre_StageIdeal_finite_sum m) (c : Dev StageIdeal.nD) :
    Cert.StageIdeal.Gen.Cancels (Cert.StageIdeal.Gen.V m c StageIdeal.main_arg1) := by
  rw [Cert.StageIdeal.Gen.V_main_arg1 m c]
  intro j
  exact sub_self_of_abs_lt _ (abs_lt_of_pre_sum _ _ _ _ (congrFun (h c) _))

/-- The reference's product, read at an index. -/
theorem ref_dpe (g : FVec Ideal StageReferenceIdeal.S1x2560 .f32) (w : FVec Ideal StageReferenceIdeal.S6144x2560 .bf16)
    (j : Fin 64) (d : Fin 96) :
    StageReferenceIdeal.Read.val_main_v3 (F := Ideal) g w (ix2 j d) = StageIdeal.Gen.dpeAt g w ⟨j.val * 96 + d.val, by omega⟩ := by
  rw [StageReferenceIdeal.Read.val_main_v3_apply, StageReferenceIdeal.Read.val_main_v2_apply]
  unfold StageIdeal.Gen.dpeAt
  refine Finset.sum_congr rfl fun f _ => ?_
  rw [StageReferenceIdeal.Read.val_main_v1_apply, StageReferenceIdeal.Read.val_main_v0_apply]
  refine (mul_comm (w _ : EReal) (g _)).trans (congrArg₂ (fun a b : EReal => a * b) (congrArg g ?_) (congrArg w ?_))
  · funext a
    match a with
    | ⟨0, _⟩ => rfl
    | ⟨1, _⟩ => exact Fin.ext (Nat.mod_eq_of_lt f.isLt)
  · funext a
    match a with
    | ⟨0, _⟩ => rfl
    | ⟨1, _⟩ => rfl

/-- The reference's frame: the arguments stay, and there is no semaphore to leave raised. -/
theorem stageReference_frame (m : (ℓ : Loc StageReferenceIdeal.nD StageReferenceIdeal.τ StageReferenceIdeal.sig) → Buf (Elt Ideal) ℓ)
    (g : Dev StageReferenceIdeal.nD → PrngReg) :
    θ_run (Cert.StageReferenceIdeal.defs (F := Ideal)) (onTc (τ := StageReferenceIdeal.τ) (StageReferenceIdeal.main (F := Ideal)))
      ⟨m, fun _ => 0, g⟩ (fun r => (∀ c : Dev StageReferenceIdeal.nD,
        r.2.mem ((c.tc : Thread StageReferenceIdeal.nD StageReferenceIdeal.τ).loc StageReferenceIdeal.main_arg0) = m ((c.tc : Thread StageReferenceIdeal.nD StageReferenceIdeal.τ).loc StageReferenceIdeal.main_arg0)
        ∧ r.2.mem ((c.tc : Thread StageReferenceIdeal.nD StageReferenceIdeal.τ).loc StageReferenceIdeal.main_arg1) = m ((c.tc : Thread StageReferenceIdeal.nD StageReferenceIdeal.τ).loc StageReferenceIdeal.main_arg1)
        ∧ r.2.mem ((c.tc : Thread StageReferenceIdeal.nD StageReferenceIdeal.τ).loc StageReferenceIdeal.main_arg2) = m ((c.tc : Thread StageReferenceIdeal.nD StageReferenceIdeal.τ).loc StageReferenceIdeal.main_arg2))
        ∧ r.2.sem = fun _ => 0) :=
  (θ_run _ _ _).mono (fun r h => ⟨fun c => (h c).2, sem_eq_zero_of_no_sems (by decide) r.2⟩) (StageReferenceIdeal.Value.run m g)

theorem stage_algebraic : Cert.algebraic_StageIdeal_StageReferenceIdeal_pre_finite_sum (hStageIdeal := Cert.StageIdeal.Gen.facts)
    (hStageReferenceIdeal := Cert.StageReferenceIdeal.Gen.facts) (hPre_finite_sum := Cert.Pre_finite_sum.Gen.facts) := by
  intro m g m' g' hpre hargs
  refine ⟨fun c => StableHlo.after StageIdeal.Gen.hostOps1 (StageIdeal.Gen.exitW m c) (Proc.devRef .tc StageIdeal.main_v5),
    StageIdeal.Gen.run_values m g, ?_⟩
  refine (θ_run _ _ _).mono (fun r h c => ?_) (StageReferenceIdeal.Value.run m' g')
  obtain ⟨e3, eargs⟩ := h c
  obtain ⟨_, h1, h2⟩ := hargs c
  refine ⟨funext fun i => ?_, eargs⟩
  refine (congrFun (e3.trans (StageReferenceIdeal.Read.val_main_v3_eq _ _)) i).trans ?_
  obtain ⟨j, d, rfl⟩ := idx2_of i
  rw [h1, h2]
  exact (ref_dpe _ _ j d).trans (StageIdeal.Gen.kernel_dpe m c (finite_of_pre_sum m hpre c) j d).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Stage
public import proofs.«01_k».proof.Proof.Gen.Stage.Skeleton
public import proofs.«01_k».proof.Proof.Gen.Stage.Launch
public import proofs.«01_k».proof.Proof.Gen.Stage.Points
public import proofs.«01_k».proof.Proof.Gen.Stage.Frame
public import proofs.«01_k».proof.Proof.Gen.StageIdeal
public import proofs.«01_k».proof.Proof.Gen.StageIdeal.Skeleton
public import proofs.«01_k».proof.Proof.Gen.StageIdeal.Launch
public import proofs.«01_k».proof.Proof.Gen.StageIdeal.Points
public import proofs.«01_k».proof.Proof.Gen.StageIdeal.Frame
public import proofs.«01_k».proof.Proof.Gen.StageReferenceIdeal
public import proofs.«01_k».proof.Proof.Gen.StageReferenceIdeal.Run
public import proofs.«01_k».proof.Proof.Gen.StageReferenceIdeal.Read
public import proofs.«01_k».proof.Proof.Gen.Pre_finite_sum
public import proofs.«01_k».proof.Proof.Algebraic
public import proofs.«01_k».proof.Proof.StageAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Stage.Gen.facts,
  Cert.StageIdeal.Gen.facts, Cert.StageReferenceIdeal.Gen.facts, pre_facts, Cert.Pre_finite_sum.Gen.facts, on_facts, by
  exact ⟨fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, fun m ρ _ => Cert.Stage.Gen.frame m ρ,
    fun m ρ _ => Cert.StageIdeal.Gen.frame m ρ, fun m ρ _ => Cert.StageIdeal.Gen.frame m ρ,
    fun m ρ _ => stageReference_frame m ρ, fun m ρ _ => stageReference_frame m ρ, trivial, algebraic, trivial, stage_algebraic⟩⟩

end Cert.Proof

end
